-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spans_inside [hPre_spans_inside : Cert.Pre_spans_inside.Facts] (m : (ℓ : Loc Cert.KernelIdeal.nD Cert.KernelIdeal.τ Cert.KernelIdeal.sig) → Buf (Elt Ideal) ℓ) : Prop :=
  ∀ c : Dev Cert.KernelIdeal.nD,
    (Cert.Pre_spans_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spans_inside [hPre_spans_inside : Cert.Pre_spans_inside.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spans_inside.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_spans_inside [hKernelIdeal : Cert.KernelIdeal.Facts] [hPre_spans_inside : Cert.Pre_spans_inside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spans_inside m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_spans_inside [hReferenceIdeal : Cert.ReferenceIdeal.Facts] [hPre_spans_inside : Cert.Pre_spans_inside.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spans_inside m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_spans_inside [hKernelIdeal : Cert.KernelIdeal.Facts] [hReferenceIdeal : Cert.ReferenceIdeal.Facts] [hPre_spans_inside : Cert.Pre_spans_inside.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spans_inside m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_spans_inside : Cert.Pre_spans_inside.Facts),
    quiescent_Kernel (hKernel := hKernel)
    ∧ quiescent_KernelIdeal (hKernelIdeal := hKernelIdeal)
    ∧ quiescent_KernelIdeal_pre_spans_inside (hKernelIdeal := hKernelIdeal) (hPre_spans_inside := hPre_spans_inside)
    ∧ quiescent_ReferenceIdeal (hReferenceIdeal := hReferenceIdeal)
    ∧ quiescent_ReferenceIdeal_pre_spans_inside (hReferenceIdeal := hReferenceIdeal) (hPre_spans_inside := hPre_spans_inside)
    ∧ preserves_Kernel_KernelIdeal
    ∧ algebraic_KernelIdeal_ReferenceIdeal_pre_spans_inside (hKernelIdeal := hKernelIdeal) (hReferenceIdeal := hReferenceIdeal) (hPre_spans_inside := hPre_spans_inside)
-- ==== Pre_spans_inside.lean ====
abbrev S8x512x768 : Shape := ⟨3, ![8, 512, 768]⟩
abbrev S8x512 : Shape := ⟨2, ![8, 512]⟩
abbrev S8x2048x3 : Shape := ⟨3, ![8, 2048, 3]⟩
abbrev S8x2048 : Shape := ⟨2, ![8, 2048]⟩
abbrev S8x2048x2048 : Shape := ⟨3, ![8, 2048, 2048]⟩
abbrev S8 : Shape := ⟨1, ![8]⟩
abbrev S768x3072 : Shape := ⟨2, ![768, 3072]⟩
abbrev S3072 : Shape := ⟨1, ![3072]⟩
abbrev S3072x768 : Shape := ⟨2, ![3072, 768]⟩
abbrev S768 : Shape := ⟨1, ![768]⟩
abbrev S768x3 : Shape := ⟨2, ![768, 3]⟩
abbrev S3 : Shape := ⟨1, ![3]⟩
abbrev S8x2048x1 : Shape := ⟨3, ![8, 2048, 1]⟩
abbrev S_ : Shape := ⟨0, ![]⟩

class Facts : Prop where
  slices_S8x2048x3_S8x2048x1_0_0_0 : S8x2048x3.Slices ![0, 0, 0] S8x2048x1
  shapeCasts_S8x2048x1_S8x2048 : S8x2048x1.ShapeCasts S8x2048
  slices_S8x2048x3_S8x2048x1_0_0_2 : S8x2048x3.Slices ![0, 0, 2] S8x2048x1
  bcast_S_S8x2048 : S_.BroadcastsInDim S8x2048 (![] : Fin 0 → Fin S8x2048.rank)
  reducesTo_S8x2048_S_d0_1 : S8x2048.ReducesTo [0, 1] S_
  h_S_ : 0 < S_.numel

variable [Facts]

def fn_part1 {F : FTy → Type} [FloatOps F] (main_v1 : IVec S8x2048 32) (main_v3 : IVec S8x2048 32) (main_v8 : IVec S8x2048 1) (main_v16 : IVec S8x2048 1) (main_v17 : IVec S8x2048 32) : IVec S_ 1 :=
  let main_v18 : IVec S8x2048 1 := cmpi .sle main_v3 main_v17
  let main_c_5 : IVec S_ 32 := constantI S_ 32 508#32
  let main_v19 : IVec S8x2048 32 := broadcastInDim S8x2048 ![] bcast_S_S8x2048 main_c_5
  let main_v20 : IVec S8x2048 1 := cmpi .sge main_v1 main_v19
  let main_v21 : IVec S8x2048 1 := ori main_v18 main_v20
  let main_v22 : IVec S8x2048 1 := andi main_v16 main_v21
  let main_v23 : IVec S8x2048 1 := ori main_v8 main_v22
  let main_c_6 : IVec S_ 1 := constantI S_ 1 1#1
  let main_v24 : IVec S_ 1 := (fun x v => Host.reduce IntOp.andi x v reducesTo_S8x2048_S_d0_1 h_S_) main_v23 main_c_6
  main_v24

def fn {F : FTy → Type} [FloatOps F] (main_arg0 : FVec F S8x512x768 .f32) (main_arg1 : IVec S8x512 1) (main_arg2 : IVec S8x2048x3 32) (main_arg3 : IVec S8x2048 32) (main_arg4 : IVec S8x2048x2048 1) (main_arg5 : IVec S8 32) (main_arg6 : FVec F S768x3072 .f32) (main_arg7 : FVec F S3072 .f32) (main_arg8 : FVec F S3072x768 .f32) (main_arg9 : FVec F S768 .f32) (main_arg10 : FVec F S768 .f32) (main_arg11 : FVec F S768 .f32) (main_arg12 : FVec F S768x3072 .f32) (main_arg13 : FVec F S3072 .f32) (main_arg14 : FVec F S3072x768 .f32) (main_arg15 : FVec F S768 .f32) (main_arg16 : FVec F S768 .f32) (main_arg17 : FVec F S768 .f32) (main_arg18 : FVec F S768x3 .f32) (main_arg19 : FVec F S3 .f32) (main_arg20 : FVec F S768x3 .f32) (main_arg21 : FVec F S3 .f32) : IVec S_ 1 :=
  let main_v0 : IVec S8x2048x1 32 := (extractStridedSlice S8x2048x1 ![0, 0, 0] · slices_S8x2048x3_S8x2048x1_0_0_0) main_arg2
  let main_v1 : IVec S8x2048 32 := shapeCast S8x2048 main_v0 shapeCasts_S8x2048x1_S8x2048
  let main_v2 : IVec S8x2048x1 32 := (extractStridedSlice S8x2048x1 ![0, 0, 2] · slices_S8x2048x3_S8x2048x1_0_0_2) main_arg2
  let main_v3 : IVec S8x2048 32 := shapeCast S8x2048 main_v2 shapeCasts_S8x2048x1_S8x2048
  let main_c : IVec S_ 32 := constantI S_ 32 0#32
  let main_v4 : IVec S8x2048 32 := broadcastInDim S8x2048 ![] bcast_S_S8x2048 main_c
  let main_v5 : IVec S8x2048 1 := cmpi .sle main_v3 main_v4
  let main_c_0 : IVec S_ 32 := constantI S_ 32 0#32
  let main_v6 : IVec S8x2048 32 := broadcastInDim S8x2048 ![] bcast_S_S8x2048 main_c_0
  let main_v7 : IVec S8x2048 1 := cmpi .eq main_arg3 main_v6
  let main_v8 : IVec S8x2048 1 := ori main_v5 main_v7
  let main_c_1 : IVec S_ 32 := constantI S_ 32 0#32
  let main_v9 : IVec S8x2048 32 := broadcastInDim S8x2048 ![] bcast_S_S8x2048 main_c_1
  let main_v10 : IVec S8x2048 1 := cmpi .sge main_v1 main_v9
  let main_c_2 : IVec S_ 32 := constantI S_ 32 4#32
  let main_v11 : IVec S8x2048 32 := broadcastInDim S8x2048 ![] bcast_S_S8x2048 main_c_2
  let main_v12 : IVec S8x2048 32 := minsi main_v3 main_v11
  let main_c_3 : IVec S_ 32 := constantI S_ 32 512#32
  let main_v13 : IVec S8x2048 32 := broadcastInDim S8x2048 ![] bcast_S_S8x2048 main_c_3
  let main_v14 : IVec S8x2048 32 := subi main_v13 main_v12
  let main_v15 : IVec S8x2048 1 := cmpi .sle main_v1 main_v14
  let main_v16 : IVec S8x2048 1 := andi main_v10 main_v15
  let main_c_4 : IVec S_ 32 := constantI S_ 32 4#32
  let main_v17 : IVec S8x2048 32 := broadcastInDim S8x2048 ![] bcast_S_S8x2048 main_c_4
  fn_part1 (F := F) main_v1 main_v3 main_v8 main_v16 main_v17
-- ==== Kernel.lean ====
abbrev S8x512x768 : Shape := ⟨3, ![8, 512, 768]⟩
abbrev S8x512 : Shape := ⟨2, ![8, 512]⟩
abbrev S8x2048x3 : Shape := ⟨3, ![8, 2048, 3]⟩
abbrev S8x2048 : Shape := ⟨2, ![8, 2048]⟩
abbrev S8x2048x2048 : Shape := ⟨3, ![8, 2048, 2048]⟩
abbrev S8 : Shape := ⟨1, ![8]⟩
abbrev S768x3072 : Shape := ⟨2, ![768, 3072]⟩
abbrev S3072 : Shape := ⟨1, ![3072]⟩
abbrev S3072x768 : Shape := ⟨2, ![3072, 768]⟩
abbrev S768 : Shape := ⟨1, ![768]⟩
abbrev S768x3 : Shape := ⟨2, ![768, 3]⟩
abbrev S3 : Shape := ⟨1, ![3]⟩
abbrev S8x2048x1 : Shape := ⟨3, ![8, 2048, 1]⟩
abbrev S_ : Shape := ⟨0, ![]⟩
abbrev S64x256x1 : Shape := ⟨3, ![64, 256, 1]⟩
abbrev S1x3072 : Shape := ⟨2, ![1, 3072]⟩
abbrev S1x768 : Shape := ⟨2, ![1, 768]⟩
abbrev S1x3 : Shape := ⟨2, ![1, 3]⟩
abbrev S64x256x6 : Shape := ⟨3, ![64, 256, 6]⟩
abbrev S8x2048x6 : Shape := ⟨3, ![8, 2048, 6]⟩
abbrev S1x256x1 : Shape := ⟨3, ![1, 256, 1]⟩
abbrev S1x512x768 : Shape := ⟨3, ![1, 512, 768]⟩
abbrev S1x256x6 : Shape := ⟨3, ![1, 256, 6]⟩
abbrev S256x1 : Shape := ⟨2, ![256, 1]⟩
abbrev S256x512 : Shape := ⟨2, ![256, 512]⟩
abbrev S512x768 : Shape := ⟨2, ![512, 768]⟩
abbrev S256x768 : Shape := ⟨2, ![256, 768]⟩
abbrev S256x3072 : Shape := ⟨2, ![256, 3072]⟩
abbrev S256 : Shape := ⟨1, ![256]⟩
abbrev S256x3 : Shape := ⟨2, ![256, 3]⟩
abbrev S256x6 : Shape := ⟨2, ![256, 6]⟩

abbrev nBuf : Space → Nat
  | .hbm => 55
  | .vmem => 26
  | .smem => 0
  | _ => 0

abbrev bufTy : (tb : Table) → Fin (tcTables nBuf tb) → BufTy
  | .hbm, ⟨0, _⟩ => ⟨S8x512x768, .f32⟩
  | .hbm, ⟨1, _⟩ => ⟨S8x512, .i1⟩
  | .hbm, ⟨2, _⟩ => ⟨S8x2048x3, .i32⟩
  | .hbm, ⟨3, _⟩ => ⟨S8x2048, .i32⟩
  | .hbm, ⟨4, _⟩ => ⟨S8x2048x2048, .i1⟩
  | .hbm, ⟨5, _⟩ => ⟨S8, .i32⟩
  | .hbm, ⟨6, _⟩ => ⟨S768x3072, .f32⟩
  | .hbm, ⟨7, _⟩ => ⟨S3072, .f32⟩
  | .hbm, ⟨8, _⟩ => ⟨S3072x768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768x3072, .f32⟩
  | .hbm, ⟨13, _⟩ => ⟨S3072, .f32⟩
  | .hbm, ⟨14, _⟩ => ⟨S3072x768, .f32⟩
  | .hbm, ⟨15, _⟩ => ⟨S768, .f32⟩
  | .hbm, ⟨16, _⟩ => ⟨S768, .f32⟩
  | .hbm, ⟨17, _⟩ => ⟨S768, .f32⟩
  | .hbm, ⟨18, _⟩ => ⟨S768x3, .f32⟩
  | .hbm, ⟨19, _⟩ => ⟨S3, .f32⟩
  | .hbm, ⟨20, _⟩ => ⟨S768x3, .f32⟩
  | .hbm, ⟨21, _⟩ => ⟨S3, .f32⟩
  | .hbm, ⟨22, _⟩ => ⟨S8x2048x1, .i32⟩
  | .hbm, ⟨23, _⟩ => ⟨S8x2048, .i32⟩
  | .hbm, ⟨24, _⟩ => ⟨S8x2048, .f32⟩
  | .hbm, ⟨25, _⟩ => ⟨S8x2048x1, .i32⟩
  | .hbm, ⟨26, _⟩ => ⟨S8x2048, .i32⟩
  | .hbm, ⟨27, _⟩ => ⟨S8x2048, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S_, .f32⟩
  | .hbm, ⟨36, _⟩ => ⟨S8x2048, .f32⟩
  | .hbm, ⟨37, _⟩ => ⟨S8x2048, .f32⟩
  | .hbm, ⟨38, _⟩ => ⟨S8x2048, .f32⟩
  | .hbm, ⟨39, _⟩ => ⟨S8x2048, .f32⟩
  | .hbm, ⟨40, _⟩ => ⟨S64x256x1, .f32⟩
  | .hbm, ⟨41, _⟩ => ⟨S64x256x1, .f32⟩
  | .hbm, ⟨42, _⟩ => ⟨S64x256x1, .f32⟩
  | .hbm, ⟨43, _⟩ => ⟨S1x3072, .f32⟩
  | .hbm, ⟨44, _⟩ => ⟨S1x768, .f32⟩
  | .hbm, ⟨45, _⟩ => ⟨S1x768, .f32⟩
  | .hbm, ⟨46, _⟩ => ⟨S1x768, .f32⟩
  | .hbm, ⟨47, _⟩ => ⟨S1x3072, .f32⟩
  | .hbm, ⟨48, _⟩ => ⟨S1x768, .f32⟩
  | .hbm, ⟨49, _⟩ => ⟨S1x768, .f32⟩
  | .hbm, ⟨50, _⟩ => ⟨S1x768, .f32⟩
  | .hbm, ⟨51, _⟩ => ⟨S1x3, .f32⟩
  | .hbm, ⟨52, _⟩ => ⟨S1x3, .f32⟩
  | .hbm, ⟨53, _⟩ => ⟨S64x256x6, .f32⟩
  | .hbm, ⟨54, _⟩ => ⟨S8x2048x6, .f32⟩
  | .local _ .vmem, ⟨0, _⟩ => ⟨S1x256x1, .f32⟩
  | .local _ .vmem, ⟨1, _⟩ => ⟨S1x256x1, .f32⟩
  | .local _ .vmem, ⟨2, _⟩ => ⟨S1x256x1, .f32⟩
  | .local _ .vmem, ⟨3, _⟩ => ⟨S1x256x1, .f32⟩
  | .local _ .vmem, ⟨4, _⟩ => ⟨S1x256x1, .f32⟩
  | .local _ .vmem, ⟨5, _⟩ => ⟨S1x256x1, .f32⟩
  | .local _ .vmem, ⟨6, _⟩ => ⟨S1x512x768, .f32⟩
  | .local _ .vmem, ⟨7, _⟩ => ⟨S1x512x768, .f32⟩
  | .local _ .vmem, ⟨8, _⟩ => ⟨S768x3072, .f32⟩
  | .local _ .vmem, ⟨9, _⟩ => ⟨S1x3072, .f32⟩
  | .local _ .vmem, ⟨10, _⟩ => ⟨S3072x768, .f32⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S768x3072, .f32⟩
  | .local _ .vmem, ⟨15, _⟩ => ⟨S1x3072, .f32⟩
  | .local _ .vmem, ⟨16, _⟩ => ⟨S3072x768, .f32⟩
  | .local _ .vmem, ⟨17, _⟩ => ⟨S1x768, .f32⟩
  | .local _ .vmem, ⟨18, _⟩ => ⟨S1x768, .f32⟩
  | .local _ .vmem, ⟨19, _⟩ => ⟨S1x768, .f32⟩
  | .local _ .vmem, ⟨20, _⟩ => ⟨S768x3, .f32⟩
  | .local _ .vmem, ⟨21, _⟩ => ⟨S1x3, .f32⟩
  | .local _ .vmem, ⟨22, _⟩ => ⟨S768x3, .f32⟩
  | .local _ .vmem, ⟨23, _⟩ => ⟨S1x3, .f32⟩
  | .local _ .vmem, ⟨24, _⟩ => ⟨S1x256x6, .f32⟩
  | .local _ .vmem, ⟨25, _⟩ => ⟨S1x256x6, .f32⟩
  | _, _ => ⟨S8x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_cst_0 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_v18 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg20_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3072x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S768x3 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x3 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S768x3 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x3 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1x256x6 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S8x512x768 : Shape := ⟨3, ![8, 512, 768]⟩
abbrev S8x512 : Shape := ⟨2, ![8, 512]⟩
abbrev S8x2048x3 : Shape := ⟨3, ![8, 2048, 3]⟩
abbrev S8x2048 : Shape := ⟨2, ![8, 2048]⟩
abbrev S8x2048x2048 : Shape := ⟨3, ![8, 2048, 2048]⟩
abbrev S8 : Shape := ⟨1, ![8]⟩
abbrev S768x3072 : Shape := ⟨2, ![768, 3072]⟩
abbrev S3072 : Shape := ⟨1, ![3072]⟩
abbrev S3072x768 : Shape := ⟨2, ![3072, 768]⟩
abbrev S768 : Shape := ⟨1, ![768]⟩
abbrev S768x3 : Shape := ⟨2, ![768, 3]⟩
abbrev S3 : Shape := ⟨1, ![3]⟩
abbrev S8x2048x1 : Shape := ⟨3, ![8, 2048, 1]⟩
abbrev S4 : Shape := ⟨1, ![4]⟩
abbrev S1x1x4 : Shape := ⟨3, ![1, 1, 4]⟩
abbrev S8x2048x4 : Shape := ⟨3, ![8, 2048, 4]⟩
abbrev S_ : Shape := ⟨0, ![]⟩
abbrev S8x2048x4x1 : Shape := ⟨4, ![8, 2048, 4, 1]⟩
abbrev S8x2048x4x768 : Shape := ⟨4, ![8, 2048, 4, 768]⟩
abbrev S8x2048x768 : Shape := ⟨3, ![8, 2048, 768]⟩
abbrev S8x2048x3072 : Shape := ⟨3, ![8, 2048, 3072]⟩
abbrev S1x1x3072 : Shape := ⟨3, ![1, 1, 3072]⟩
abbrev S1x1x768 : Shape := ⟨3, ![1, 1, 768]⟩
abbrev S1x1x3 : Shape := ⟨3, ![1, 1, 3]⟩
abbrev S8x2048x6 : Shape := ⟨3, ![8, 2048, 6]⟩

abbrev nBuf : Space → Nat
  | .hbm => 174
  | .vmem => 0
  | .smem => 0
  | _ => 0

abbrev hbmTy0_0 (i : Nat) : BufTy := match i % 128 with
  | 0 => ⟨S8x512x768, .f32⟩
  | 1 => ⟨S8x512, .i1⟩
  | 2 => ⟨S8x2048x3, .i32⟩
  | 3 => ⟨S8x2048, .i32⟩
  | 4 => ⟨S8x2048x2048, .i1⟩
  | 5 => ⟨S8, .i32⟩
  | 6 => ⟨S768x3072, .f32⟩
  | 7 => ⟨S3072, .f32⟩
  | 8 => ⟨S3072x768, .f32⟩
  | 9 => ⟨S768, .f32⟩
  | 10 => ⟨S768, .f32⟩
  | 11 => ⟨S768, .f32⟩
  | 12 => ⟨S768x3072, .f32⟩
  | 13 => ⟨S3072, .f32⟩
  | 14 => ⟨S3072x768, .f32⟩
  | 15 => ⟨S768, .f32⟩
  | 16 => ⟨S768, .f32⟩
  | 17 => ⟨S768, .f32⟩
  | 18 => ⟨S768x3, .f32⟩
  | 19 => ⟨S3, .f32⟩
  | 20 => ⟨S768x3, .f32⟩
  | 21 => ⟨S3, .f32⟩
  | 22 => ⟨S8x2048x1, .i32⟩
  | 23 => ⟨S8x2048, .i32⟩
  | 24 => ⟨S8x2048x1, .i32⟩
  | 25 => ⟨S8x2048, .i32⟩
  | 26 => ⟨S4, .i32⟩
  | 27 => ⟨S8x2048x1, .i32⟩
  | 28 => ⟨S1x1x4, .i32⟩
  | 29 => ⟨S8x2048x4, .i32⟩
  | 30 => ⟨S8x2048x4, .i32⟩
  | 31 => ⟨S8x2048x4, .i32⟩
  | 32 => ⟨S_, .i32⟩
  | 33 => ⟨S_, .i32⟩
  | 34 => ⟨S_, .i32⟩
  | 35 => ⟨S8x2048x4, .i32⟩
  | 36 => ⟨S8x2048x4, .i32⟩
  | 37 => ⟨S_, .i32⟩
  | 38 => ⟨S8x2048x4, .i32⟩
  | 39 => ⟨S8x2048x4, .i32⟩
  | 40 => ⟨S1x1x4, .i32⟩
  | 41 => ⟨S8x2048x1, .i32⟩
  | 42 => ⟨S8x2048x4, .i32⟩
  | 43 => ⟨S8x2048x4, .i32⟩
  | 44 => ⟨S8x2048x4, .i1⟩
  | 45 => ⟨S8x2048x4, .f32⟩
  | 46 => ⟨S_, .i32⟩
  | 47 => ⟨S8x2048x4, .i32⟩
  | 48 => ⟨S8x2048x4, .i1⟩
  | 49 => ⟨S_, .i32⟩
  | 50 => ⟨S8x2048x4, .i32⟩
  | 51 => ⟨S8x2048x4, .i32⟩
  | 52 => ⟨S8x2048x4, .i32⟩
  | 53 => ⟨S8x2048x4x1, .i32⟩
  | 54 => ⟨S8x2048x4x768, .f32⟩
  | 55 => ⟨S8x2048x4x1, .f32⟩
  | 56 => ⟨S8x2048x4x768, .f32⟩
  | 57 => ⟨S8x2048x4x768, .f32⟩
  | 58 => ⟨S_, .f32⟩
  | 59 => ⟨S8x2048x768, .f32⟩
  | 60 => ⟨S8x2048x1, .i32⟩
  | 61 => ⟨S_, .i32⟩
  | 62 => ⟨S8x2048x1, .i32⟩
  | 63 => ⟨S8x2048x1, .i32⟩
  | 64 => ⟨S8x2048x1, .f32⟩
  | 65 => ⟨S8x2048x768, .f32⟩
  | 66 => ⟨S8x2048x768, .f32⟩
  | 67 => ⟨S8x2048x1, .i32⟩
  | 68 => ⟨S8x2048x1, .f32⟩
  | 69 => ⟨S8x2048x768, .f32⟩
  | 70 => ⟨S8x2048x768, .f32⟩
  | 71 => ⟨S8x2048x3072, .f32⟩
  | 72 => ⟨S1x1x3072, .f32⟩
  | 73 => ⟨S8x2048x3072, .f32⟩
  | 74 => ⟨S8x2048x3072, .f32⟩
  | 75 => ⟨S_, .f32⟩
  | 76 => ⟨S8x2048x3072, .f32⟩
  | 77 => ⟨S8x2048x3072, .f32⟩
  | 78 => ⟨S8x2048x3072, .f32⟩
  | 79 => ⟨S_, .f32⟩
  | 80 => ⟨S8x2048x3072, .f32⟩
  | 81 => ⟨S8x2048x3072, .f32⟩
  | 82 => ⟨S8x2048x3072, .f32⟩
  | 83 => ⟨S8x2048x3072, .f32⟩
  | 84 => ⟨S8x2048x768, .f32⟩
  | 85 => ⟨S1x1x768, .f32⟩
  | 86 => ⟨S8x2048x768, .f32⟩
  | 87 => ⟨S8x2048x768, .f32⟩
  | 88 => ⟨S8x2048x768, .f32⟩
  | 89 => ⟨S_, .f32⟩
  | 90 => ⟨S8x2048, .f32⟩
  | 91 => ⟨S8x2048x1, .f32⟩
  | 92 => ⟨S_, .f32⟩
  | 93 => ⟨S8x2048x1, .f32⟩
  | 94 => ⟨S8x2048x1, .f32⟩
  | 95 => ⟨S8x2048x768, .f32⟩
  | 96 => ⟨S8x2048x768, .f32⟩
  | 97 => ⟨S8x2048x768, .f32⟩
  | 98 => ⟨S_, .f32⟩
  | 99 => ⟨S8x2048, .f32⟩
  | 100 => ⟨S8x2048x1, .f32⟩
  | 101 => ⟨S_, .f32⟩
  | 102 => ⟨S8x2048x1, .f32⟩
  | 103 => ⟨S8x2048x1, .f32⟩
  | 104 => ⟨S8x2048x768, .f32⟩
  | 105 => ⟨S8x2048x768, .f32⟩
  | 106 => ⟨S_, .f32⟩
  | 107 => ⟨S8x2048x1, .f32⟩
  | 108 => ⟨S8x2048x1, .f32⟩
  | 109 => ⟨S8x2048x1, .f32⟩
  | 110 => ⟨S8x2048x768, .f32⟩
  | 111 => ⟨S8x2048x768, .f32⟩
  | 112 => ⟨S1x1x768, .f32⟩
  | 113 => ⟨S8x2048x768, .f32⟩
  | 114 => ⟨S8x2048x768, .f32⟩
  | 115 => ⟨S1x1x768, .f32⟩
  | 116 => ⟨S8x2048x768, .f32⟩
  | 117 => ⟨S8x2048x768, .f32⟩
  | 118 => ⟨S8x2048x3, .f32⟩
  | 119 => ⟨S1x1x3, .f32⟩
  | 120 => ⟨S8x2048x3, .f32⟩
  | 121 => ⟨S8x2048x3, .f32⟩
  | 122 => ⟨S8x2048x3072, .f32⟩
  | 123 => ⟨S1x1x3072, .f32⟩
  | 124 => ⟨S8x2048x3072, .f32⟩
  | 125 => ⟨S8x2048x3072, .f32⟩
  | 126 => ⟨S_, .f32⟩
  | 127 => ⟨S8x2048x3072, .f32⟩
  | _ => ⟨S8x512x768, .f32⟩

abbrev hbmTy0_1 (i : Nat) : BufTy := match i % 128 with
  | 0 => ⟨S8x2048x3072, .f32⟩
  | 1 => ⟨S8x2048x3072, .f32⟩
  | 2 => ⟨S_, .f32⟩
  | 3 => ⟨S8x2048x3072, .f32⟩
  | 4 => ⟨S8x2048x3072, .f32⟩
  | 5 => ⟨S8x2048x3072, .f32⟩
  | 6 => ⟨S8x2048x3072, .f32⟩
  | 7 => ⟨S8x2048x768, .f32⟩
  | 8 => ⟨S1x1x768, .f32⟩
  | 9 => ⟨S8x2048x768, .f32⟩
  | 10 => ⟨S8x2048x768, .f32⟩
  | 11 => ⟨S8x2048x768, .f32⟩
  | 12 => ⟨S_, .f32⟩
  | 13 => ⟨S8x2048, .f32⟩
  | 14 => ⟨S8x2048x1, .f32⟩
  | 15 => ⟨S_, .f32⟩
  | 16 => ⟨S8x2048x1, .f32⟩
  | 17 => ⟨S8x2048x1, .f32⟩
  | 18 => ⟨S8x2048x768, .f32⟩
  | 19 => ⟨S8x2048x768, .f32⟩
  | 20 => ⟨S8x2048x768, .f32⟩
  | 21 => ⟨S_, .f32⟩
  | 22 => ⟨S8x2048, .f32⟩
  | 23 => ⟨S8x2048x1, .f32⟩
  | 24 => ⟨S_, .f32⟩
  | 25 => ⟨S8x2048x1, .f32⟩
  | 26 => ⟨S8x2048x1, .f32⟩
  | 27 => ⟨S8x2048x768, .f32⟩
  | 28 => ⟨S8x2048x768, .f32⟩
  | 29 => ⟨S_, .f32⟩
  | 30 => ⟨S8x2048x1, .f32⟩
  | 31 => ⟨S8x2048x1, .f32⟩
  | 32 => ⟨S8x2048x1, .f32⟩
  | 33 => ⟨S8x2048x768, .f32⟩
  | 34 => ⟨S8x2048x768, .f32⟩
  | 35 => ⟨S1x1x768, .f32⟩
  | 36 => ⟨S8x2048x768, .f32⟩
  | 37 => ⟨S8x2048x768, .f32⟩
  | 38 => ⟨S1x1x768, .f32⟩
  | 39 => ⟨S8x2048x768, .f32⟩
  | 40 => ⟨S8x2048x768, .f32⟩
  | 41 => ⟨S8x2048x3, .f32⟩
  | 42 => ⟨S1x1x3, .f32⟩
  | 43 => ⟨S8x2048x3, .f32⟩
  | 44 => ⟨S8x2048x3, .f32⟩
  | 45 => ⟨S8x2048x6, .f32⟩
  | _ => ⟨S8x512x768, .f32⟩

abbrev hbmTy (i : Nat) : BufTy := match i / 128 with
  | 0 => hbmTy0_0 i
  | 1 => hbmTy0_1 i
  | _ => ⟨S8x512x768, .f32⟩

abbrev bufTy : (tb : Table) → Fin (tcTables nBuf tb) → BufTy
  | .hbm, ⟨i, _⟩ => hbmTy i
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c : Ref sig .tc := ⟨.hbm, 32, rfl⟩
abbrev main_c_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_1 : Ref sig .tc := ⟨.hbm, 46, rfl⟩
abbrev main_v17 : Ref sig .tc := ⟨.hbm, 47, rfl⟩
abbrev main_v18 : Ref sig .tc := ⟨.hbm, 48, rfl⟩
abbrev main_c_2 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst : Ref sig .tc := ⟨.hbm, 58, rfl⟩
abbrev main_v27 : Ref sig .tc := ⟨.hbm, 59, rfl⟩
abbrev main_v28 : Ref sig .tc := ⟨.hbm, 60, rfl⟩
abbrev main_c_3 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_4 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_5 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_6 : Ref sig .tc := ⟨.hbm, 89, rfl⟩
abbrev main_v54 : Ref sig .tc := ⟨.hbm, 90, rfl⟩
abbrev main_v55 : Ref sig .tc := ⟨.hbm, 91, rfl⟩
abbrev main_cst_7 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_8 : Ref sig .tc := ⟨.hbm, 98, rfl⟩
abbrev main_v61 : Ref sig .tc := ⟨.hbm, 99, rfl⟩
abbrev main_v62 : Ref sig .tc := ⟨.hbm, 100, rfl⟩
abbrev main_cst_9 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_10 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_11 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_12 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_13 : Ref sig .tc := ⟨.hbm, 140, rfl⟩
abbrev main_v98 : Ref sig .tc := ⟨.hbm, 141, rfl⟩
abbrev main_v99 : Ref sig .tc := ⟨.hbm, 142, rfl⟩
abbrev main_cst_14 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_15 : Ref sig .tc := ⟨.hbm, 149, rfl⟩
abbrev main_v105 : Ref sig .tc := ⟨.hbm, 150, rfl⟩
abbrev main_v106 : Ref sig .tc := ⟨.hbm, 151, rfl⟩
abbrev main_cst_16 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_17 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩

abbrev nD : Nat := 1
abbrev τ : Topo := Topo.v7x

variable {F : FTy → Type} [FloatOps F]
-- ==== Proof.Pool.lean ====
/- The pooled token of one span, in one column. The kernel sums over all 512 tokens, weighting those inside the span by
   one over the width, times the mask; the reference sums the at most four tokens from the span's start on, divides by the
   width and multiplies by the mask. For a span that fits, the two are equal, or infinite both: taking a real factor out of
   a sum of extended reals can change only the sign of an infinite sum. -/
module

public import Idealize.ShloMosaic.Lib.Pointwise
public import Idealize.ShloMosaic.Lib.Claim
public import Idealize.ShloMosaic.Lib.StableHlo.Predicate

@[expose] public section

noncomputable section

namespace Cert.Proof.Pool

open Idealize.ShloMosaic

/-- The weight of a token inside a span of width `w` under mask `m`. -/
def weight (w m : ℤ) : ℝ := (max (w : ℝ) 1)⁻¹ * m

/-- The pooled value: the weighted sum over the tokens inside the span. -/
def pooled (s w m : ℤ) (x : Fin 512 → EReal) : EReal :=
  ∑ t : Fin 512, if s ≤ (t.val : ℤ) ∧ (t.val : ℤ) ≤ s + w - 1 then (weight w m : EReal) * x t else 0

/-- The spans on which the two programs agree: an empty one, one under a zero mask, one of at most four tokens inside the
sequence, or a wider one that begins at the last four tokens. -/
def Fits (s w m : ℤ) : Prop := (w ≤ 0 ∨ m = 0) ∨ ((0 ≤ s ∧ s ≤ 512 - min w 4) ∧ (w ≤ 4 ∨ 508 ≤ s))

/-- One of the two infinities. -/
def Infinite (a : EReal) : Prop := a = ⊤ ∨ a = ⊥

/-- Two values that are equal, or infinite both. -/
def Near (a b : EReal) : Prop := a = b ∨ (Infinite a ∧ Infinite b)

/-- A value that is not infinite is a real number. -/
theorem exists_real {a : EReal} (h : ¬ Infinite a) : ∃ r : ℝ, a = r := by
  induction a with
  | bot => exact absurd (.inr rfl) h
  | top => exact absurd (.inl rfl) h
  | coe r => exact ⟨r, rfl⟩

/-- An infinite value plus any value is infinite. -/
theorem infinite_add {a : EReal} (h : Infinite a) (b : EReal) : Infinite (a + b) := by
  rcases h with rfl | rfl
  · induction b with
    | bot => exact .inr (by simp)
    | top => exact .inl (by simp)
    | coe r => exact .inl (by simp)
  · exact .inr (by simp)

/-- A sum with an infinite term is infinite. -/
theorem infinite_sum {ι : Type} [Fintype ι] [DecidableEq ι] (f : ι → EReal) (i : ι) (h : Infinite (f i)) : Infinite (∑ j, f j) := by
  rw [← Finset.add_sum_erase _ f (Finset.mem_univ i)]
  exact infinite_add h _

/-- A real factor other than zero keeps an infinite value infinite. -/
theorem infinite_mul {c : ℝ} (hc : c ≠ 0) {a : EReal} (h : Infinite a) : Infinite (c * a) := by
  rcases h with rfl | rfl <;> rcases lt_or_gt_of_ne hc with hn | hp
  · exact .inr (EReal.coe_mul_top_of_neg hn)
  · exact .inl (EReal.coe_mul_top_of_pos hp)
  · exact .inl (EReal.coe_mul_bot_of_neg hn)
  · exact .inr (EReal.coe_mul_bot_of_pos hp)

/-- A real factor goes into a sum over four offsets, up to the sign of an infinite sum. -/
theorem mul_sum_near (c : ℝ) (g : Fin 4 → EReal) : Near (c * ∑ o, g o) (∑ o, c * g o) := by
  by_cases hc : c = 0
  · subst hc; exact .inl (by simp)
  by_cases h : ∃ o, Infinite (g o)
  · obtain ⟨o, ho⟩ := h
    exact .inr ⟨infinite_mul hc (infinite_sum g o ho), infinite_sum _ o (infinite_mul hc ho)⟩
  · have hr : ∀ o, ∃ r : ℝ, g o = r := fun o => exists_real fun ho => h ⟨o, ho⟩
    choose r hr using hr
    refine .inl ?_
    simp only [hr, Fin.sum_univ_four]
    norm_cast
    ring

/-- The tokens inside a span are its start plus the offsets below its width. -/
theorem sum_inside (s w : ℤ) (h : Fin 512 → EReal) (hs : 0 ≤ s) (hsw : s ≤ 512 - min w 4) (hw : w ≤ 4 ∨ 508 ≤ s) (j : Fin 4 → Fin 512)
    (hj : ∀ o : Fin 4, (o.val : ℤ) < w → ((j o).val : ℤ) = s + o.val) :
    (∑ t : Fin 512, if s ≤ (t.val : ℤ) ∧ (t.val : ℤ) ≤ s + w - 1 then h t else 0)
      = ∑ o : Fin 4, if (o.val : ℤ) < w then h (j o) else 0 := by
  rw [← Finset.sum_filter, ← Finset.sum_filter]
  symm
  refine Finset.sum_bij (fun o _ => j o) ?_ ?_ ?_ ?_
  · intro o ho
    have ho := (Finset.mem_filter.mp ho).2
    have := hj o ho
    refine Finset.mem_filter.mpr ⟨Finset.mem_univ _, ?_, ?_⟩ <;> omega
  · intro o ho p hp e
    have ho := hj o (Finset.mem_filter.mp ho).2
    have hp := hj p (Finset.mem_filter.mp hp).2
    have e' : (j o).val = (j p).val := congrArg Fin.val e
    exact Fin.ext (by omega)
  · intro t ht
    have ht := (Finset.mem_filter.mp ht).2
    have hlt : ((t.val : ℤ) - s).toNat < 4 := by omega
    have ho : ((⟨((t.val : ℤ) - s).toNat, hlt⟩ : Fin 4).val : ℤ) < w := by show ((((t.val : ℤ) - s).toNat : ℕ) : ℤ) < w; omega
    refine ⟨⟨((t.val : ℤ) - s).toNat, hlt⟩, Finset.mem_filter.mpr ⟨Finset.mem_univ _, ho⟩, Fin.ext ?_⟩
    have := hj _ ho
    have e : ((⟨((t.val : ℤ) - s).toNat, hlt⟩ : Fin 4).val : ℤ) = (t.val : ℤ) - s := by
      show ((((t.val : ℤ) - s).toNat : ℕ) : ℤ) = _; omega
    omega
  · intro o _; rfl

/-- An integer word converted to a float is its signed value. -/
theorem sitofp_val {n : ℕ} (b : BitVec n) : (FloatOps.sitofp .f32 b : Ideal .f32) = ((b.toInt : ℝ) : EReal) := rfl

/-- An integer word converted to a float without a sign is its unsigned value. -/
theorem uitofp_val {n : ℕ} (b : BitVec n) : (FloatOps.uitofp .f32 b : Ideal .f32) = ((b.toNat : ℝ) : EReal) := rfl

/-- The signed value of a small word. -/
theorem toInt_small (n : ℕ) (h : n < 512) : (BitVec.ofNat 32 n).toInt = n :=
  StableHlo.Predicate.toInt_ofNat_small n (by omega)

/-- The width, at least one, as a positive real number. -/
theorem width_pos (w : ℤ) : 0 < max (w : ℝ) 1 := lt_of_lt_of_le one_pos (le_max_right _ _)

/-- A quotient by the width is a product with its inverse. -/
theorem div_width (x : EReal) (w : ℤ) : Ideal.div x ((max (w : ℝ) 1 : ℝ) : EReal) = x * (((max (w : ℝ) 1)⁻¹ : ℝ) : EReal) := by
  rw [Ideal.div, if_neg (by exact_mod_cast (width_pos w).ne'), EReal.coe_inv]

/-- The kernel's sum over the tokens is the pooled value. -/
theorem kernel_pool (s w m : ℤ) (x : Fin 512 → EReal) :
    (∑ t : Fin 512, Scalar.select
        (IntOp.andi (BitVec.ofBool (decide (((s : ℝ) : EReal) ≤ (((BitVec.ofNat 32 t.val).toInt : ℝ) : EReal))))
          (BitVec.ofBool (decide ((((BitVec.ofNat 32 t.val).toInt : ℝ) : EReal) ≤ ((s : ℝ) : EReal) + ((w : ℝ) : EReal) - 1))))
        (Ideal.div 1 (max ((w : ℝ) : EReal) 1) * ((m : ℝ) : EReal) * x t) 0)
      = pooled s w m x := by
  unfold pooled
  refine Finset.sum_congr rfl fun t _ => ?_
  have hmax : max ((w : ℝ) : EReal) 1 = ((max (w : ℝ) 1 : ℝ) : EReal) := by
    rw [← EReal.coe_one]; exact (EReal.coe_strictMono.monotone.map_max).symm
  have hend : ((s : ℝ) : EReal) + ((w : ℝ) : EReal) - 1 = ((s + w - 1 : ℤ) : ℝ) := by
    rw [← EReal.coe_one, ← EReal.coe_add, ← EReal.coe_sub]; push_cast; rfl
  rw [hmax, div_width, one_mul, ← EReal.coe_mul, hend, toInt_small t.val t.isLt]
  simp only [EReal.coe_le_coe_iff, Int.cast_le]
  unfold Scalar.select IntOp.andi weight
  by_cases h1 : s ≤ (t.val : ℤ) <;> by_cases h2 : (t.val : ℤ) ≤ s + w - 1 <;> simp [h1, h2]

/-- The larger of a width and one, as signed words. -/
theorem toInt_max (w : BitVec 32) : ((IntOp.maxsi w 1#32).toInt : ℝ) = max (w.toInt : ℝ) 1 := by
  unfold IntOp.maxsi
  by_cases h : (1#32).slt w
  · have h' : 1 < w.toInt := by simpa [BitVec.slt] using h
    rw [if_pos h, max_eq_left (by exact_mod_cast h'.le)]
  · have h' : w.toInt ≤ 1 := by simpa [BitVec.slt] using h
    rw [if_neg h, max_eq_right (by exact_mod_cast h')]
    simp

/-- Whether an offset lies below a width, as a number. -/
theorem valid_val (o : Fin 4) (w : BitVec 32) :
    ((IntOp.cmpi .slt (BitVec.ofNat 32 o.val) w).toNat : ℝ) = if (o.val : ℤ) < w.toInt then 1 else 0 := by
  simp only [IntOp.cmpi, BitVec.slt, toInt_small o.val (by omega)]
  by_cases h : (o.val : ℤ) < w.toInt <;> simp [h]

/-- An empty span, or one under a zero mask, pools to zero. -/
theorem pooled_empty (s w m : ℤ) (x : Fin 512 → EReal) (h : w ≤ 0 ∨ m = 0) : pooled s w m x = 0 := by
  unfold pooled weight
  refine Finset.sum_eq_zero fun t _ => ?_
  rcases h with h | rfl
  · rw [if_neg (by omega)]
  · simp

/-- The reference's sum over the offsets, divided and masked, is the pooled value, up to the sign of an infinite one. -/
theorem reference_pool (s m : ℤ) (w : BitVec 32) (x : Fin 512 → EReal) (h : Fits s w.toInt m) (j : Fin 4 → Fin 512)
    (hj : 0 ≤ s → s ≤ 512 - min w.toInt 4 → ∀ o : Fin 4, (o.val : ℤ) < w.toInt → ((j o).val : ℤ) = s + o.val) :
    Near (Ideal.div (∑ o : Fin 4, x (j o) * (((IntOp.cmpi .slt (BitVec.ofNat 32 o.val) w).toNat : ℝ) : EReal))
        (((IntOp.maxsi w 1#32).toInt : ℝ) : EReal) * ((m : ℝ) : EReal))
      (pooled s w.toInt m x) := by
  rw [toInt_max, div_width, mul_assoc, ← EReal.coe_mul, mul_comm]
  simp only [valid_val]
  rcases h with h | ⟨⟨hs, hsw⟩, hw⟩
  · rw [pooled_empty _ _ _ _ h]
    rcases h with h | rfl
    · refine .inl ?_
      rw [Finset.sum_eq_zero fun o _ => ?_, mul_zero]
      rw [if_neg (by omega)]
      simp
    · exact .inl (by simp)
  · unfold pooled
    rw [sum_inside s w.toInt _ hs hsw hw j (hj hs hsw)]
    have e : (∑ o : Fin 4, if (o.val : ℤ) < w.toInt then (weight w.toInt m : EReal) * x (j o) else 0)
        = ∑ o : Fin 4, ((weight w.toInt m : ℝ) : EReal) * (x (j o) * (((if (o.val : ℤ) < w.toInt then 1 else 0 : ℝ)) : EReal)) :=
      Finset.sum_congr rfl fun o _ => by split <;> simp
    rw [e]
    exact mul_sum_near _ _

end Cert.Proof.Pool
-- ==== Proof.Spec.lean ====
/- The row-wise mathematics both programs compute, over the extended reals: one span's representation `e` (768 numbers)
   goes through a two-layer span layer with the exact GELU, a residual addition, a layer normalization and a linear
   classifier. Each definition is written the way the kernel computes it; the lemmas turn the reference's spelling
   (`erfc`, a division by a square root, a sum over at most four offsets) into it. -/
module

public import Idealize.ShloMosaic.Lib.Pointwise
public import Idealize.ShloMosaic.Lib.Claim
public import proofs.«01_k».proof.Proof.Pool

@[expose] public section

noncomputable section

namespace Cert.Proof.Spec

open Idealize.ShloMosaic Pool

/-! ## Definitions -/

/-- A linear layer on one row: the row times the weight matrix, plus the bias. -/
def linear {n k : ℕ} (W : (⟨2, ![n, k]⟩ : Shape).Idx → EReal) (b : Fin k → EReal) (e : Fin n → EReal) (q : Fin k) : EReal :=
  (∑ p : Fin n, e p * W (ix2 p q)) + b q

/-- The exact GELU, with the error function. -/
def gelu (h : EReal) : EReal :=
  Ideal.ofBits .f32 0x3F000000#32 * h * (1 + Ideal.erf (h * Ideal.ofBits .f32 0x3F3504F3#32))

/-- A row minus its mean. -/
def center (y : Fin 768 → EReal) (k : Fin 768) : EReal :=
  y k - Ideal.div (∑ x, y x) (Ideal.ofBits .f32 0x44400000#32)

/-- The variance of a row plus the normalization's epsilon. -/
def spread (y : Fin 768 → EReal) : EReal :=
  Ideal.div (∑ x, center y x * center y x) (Ideal.ofBits .f32 0x44400000#32) + Ideal.ofBits .f32 0x2B8CBCCC#32

/-- Layer normalization of a row, scaled by `g` and shifted by `b`. -/
def layerNorm (g b y : Fin 768 → EReal) (k : Fin 768) : EReal :=
  center y k * Ideal.rsqrt (spread y) * g k + b k

/-- The span layer before normalization: two linear layers around a GELU, plus the row itself. -/
def mixed (W1 : (⟨2, ![768, 3072]⟩ : Shape).Idx → EReal) (b1 : Fin 3072 → EReal)
    (W2 : (⟨2, ![3072, 768]⟩ : Shape).Idx → EReal) (b2 : Fin 768 → EReal) (e : Fin 768 → EReal) (k : Fin 768) : EReal :=
  linear W2 b2 (fun p => gelu (linear W1 b1 e p)) k + e k

/-- One branch: span layer, normalization, classifier. -/
def branch (W1 : (⟨2, ![768, 3072]⟩ : Shape).Idx → EReal) (b1 : Fin 3072 → EReal)
    (W2 : (⟨2, ![3072, 768]⟩ : Shape).Idx → EReal) (b2 g b : Fin 768 → EReal)
    (Wc : (⟨2, ![768, 3]⟩ : Shape).Idx → EReal) (bc : Fin 3 → EReal) (e : Fin 768 → EReal) (n : Fin 3) : EReal :=
  linear Wc bc (layerNorm g b (mixed W1 b1 W2 b2 e)) n

/-- The six scores of a row: the first branch's three, then the second's. -/
def scores (f r : Fin 3 → EReal) (n : Fin 6) : EReal :=
  if h : n.val < 3 then f ⟨n.val, h⟩ else r ⟨n.val - 3, by omega⟩

/-! ## The reference's spellings -/

/-- The GELU with the complementary error function of the negated argument. -/
theorem gelu_erfc (h : EReal) :
    Ideal.ofBits .f32 0x3F000000#32 * h * Ideal.erfc (-h * Ideal.ofBits .f32 0x3F3504F3#32) = gelu h := by
  unfold gelu
  rw [EReal.neg_mul, Ideal.erfc_neg]

/-- The pattern of 768 as a real number. -/
theorem width_val : Ideal.ofBits .f32 0x44400000#32 = ((768 : ℝ) : EReal) := by
  simp [Ideal.ofBits, Ideal.ieee]
  rw [← EReal.coe_mul]
  norm_num

/-- The normalization's epsilon is a positive real number. -/
theorem eps_val : ∃ q : ℝ, 0 < q ∧ Ideal.ofBits .f32 0x2B8CBCCC#32 = (q : EReal) := by
  refine ⟨_, ?_, by simp [Ideal.ofBits, Ideal.ieee]; rfl⟩
  norm_num

/-- A square is not negative. -/
theorem square_nonneg (x : EReal) : 0 ≤ x * x := by
  induction x with
  | bot => simp
  | top => simp
  | coe r => exact_mod_cast mul_self_nonneg r

/-- The variance plus epsilon is positive. -/
theorem spread_pos (y : Fin 768 → EReal) : 0 < spread y := by
  obtain ⟨q, hq, he⟩ := eps_val
  unfold spread
  rw [he, width_val]
  have h : (0 : EReal) ≤ Ideal.div (∑ x, center y x * center y x) ((768 : ℝ) : EReal) := by
    rw [Ideal.div]
    have hs := Finset.sum_nonneg fun x (_ : x ∈ Finset.univ) => square_nonneg (center y x)
    rw [if_neg (by norm_num)]
    exact mul_nonneg hs (EReal.inv_nonneg_of_nonneg (by exact_mod_cast (by norm_num : (0 : ℝ) ≤ 768)))
  exact lt_of_lt_of_le (by exact_mod_cast hq) (le_add_of_nonneg_left h)

/-- Dividing by the square root of a positive number is multiplying by its reciprocal square root. -/
theorem div_root (d : EReal) {v : EReal} (hv : 0 < v) : Ideal.div d (Ideal.sqrt v) = d * Ideal.rsqrt v := by
  induction v with
  | bot => simp at hv
  | top => simp [Ideal.div]
  | coe r =>
    have hr : 0 < r := by exact_mod_cast hv
    have hs : 0 < Real.sqrt r := Real.sqrt_pos.mpr hr
    rw [Ideal.sqrt_coe, if_neg hr.not_gt, Ideal.rsqrt_coe, if_neg hr.not_gt, if_neg hr.ne', Ideal.div,
      if_neg (by exact_mod_cast hs.ne'), EReal.coe_inv]

/-- The reference's division by the root of a row's variance plus epsilon is the kernel's product. -/
theorem div_spread (d : EReal) (y : Fin 768 → EReal) :
    Ideal.div d (Ideal.sqrt (Ideal.div (∑ x, center y x * center y x) (Ideal.ofBits .f32 0x44400000#32)
      + Ideal.ofBits .f32 0x2B8CBCCC#32)) = d * Ideal.rsqrt (spread y) :=
  div_root d (spread_pos y)

/-! ## Infinite rows -/

/-- A row with an infinite element normalizes to the shift: its spread is infinite, and the reciprocal root of that is zero. -/
theorem layerNorm_infinite (g b y : Fin 768 → EReal) (d : Fin 768) (h : Infinite (y d)) (k : Fin 768) : layerNorm g b y k = b k := by
  have hc : Infinite (center y d) := by
    unfold center
    rw [sub_eq_add_neg]
    exact infinite_add h _
  have hq : center y d * center y d = ⊤ := by
    rcases hc with hc | hc <;> rw [hc] <;> rfl
  have hn := Finset.sum_nonneg fun x (_ : x ∈ Finset.univ) => square_nonneg (center y x)
  have hs : ∑ x, center y x * center y x = ⊤ := by
    rcases infinite_sum (fun x => center y x * center y x) d (.inl hq) with hs | hs
    · exact hs
    · rw [hs] at hn; simp at hn
  have hv : spread y = ⊤ := by
    obtain ⟨q, hq, he⟩ := eps_val
    unfold spread
    rw [hs, he, width_val, Ideal.div, if_neg (by norm_num), ← EReal.coe_inv, EReal.top_mul_coe_of_pos (by norm_num)]
    simp
  unfold layerNorm
  rw [hv, show Ideal.rsqrt ⊤ = 0 from rfl]
  simp

/-- Two rows that are equal or infinite element by element have the same scores. -/
theorem branch_near (W1 : (⟨2, ![768, 3072]⟩ : Shape).Idx → EReal) (b1 : Fin 3072 → EReal)
    (W2 : (⟨2, ![3072, 768]⟩ : Shape).Idx → EReal) (b2 g b : Fin 768 → EReal)
    (Wc : (⟨2, ![768, 3]⟩ : Shape).Idx → EReal) (bc : Fin 3 → EReal) (e e' : Fin 768 → EReal) (h : ∀ d, Near (e d) (e' d)) :
    branch W1 b1 W2 b2 g b Wc bc e = branch W1 b1 W2 b2 g b Wc bc e' := by
  by_cases hd : ∃ d, Infinite (e d) ∧ Infinite (e' d)
  · obtain ⟨d, hd, hd'⟩ := hd
    have mix : ∀ f : Fin 768 → EReal, Infinite (f d) → Infinite (mixed W1 b1 W2 b2 f d) := fun f hf => by
      unfold mixed
      rw [add_comm]
      exact infinite_add hf _
    have hl : layerNorm g b (mixed W1 b1 W2 b2 e) = layerNorm g b (mixed W1 b1 W2 b2 e') := funext fun k =>
      (layerNorm_infinite g b _ d (mix e hd) k).trans (layerNorm_infinite g b _ d (mix e' hd') k).symm
    unfold branch
    rw [hl]
  · have he : e = e' := funext fun d => (h d).resolve_right fun hi => hd ⟨d, hi⟩
    rw [he]

end Cert.Proof.Spec
-- ==== Proof.Payloads.lean ====
/- The kernel's payloads, element by element, as the row-wise mathematics of `Spec` and `Pool`: each value the body
   computes from its loaded blocks, at a row of the block and a column. -/
module

public import proofs.«01_k».proof.Proof.Gen.KernelIdeal.Skeleton
public import proofs.«01_k».proof.Proof.Spec
public import proofs.«01_k».proof.Proof.Pool

@[expose] public section

noncomputable section

namespace Cert.Proof.Payloads

open Idealize.ShloMosaic Idealize.SL.Sem Cert.KernelIdeal Cert.Proof.Spec

/-- The row of span representations the first product makes, before its meaning is read. -/
def row (v0 v2 v4 : Vec Ideal S1x256x1 .f32) (v17 : Vec Ideal S1x512x768 .f32) (r : Fin 256) (d : Fin 768) : EReal :=
  ∑ t : Fin 512, Scalar.select
    (IntOp.andi (BitVec.ofBool (decide (v0 (ix3 0 r 0) ≤ (((BitVec.ofNat 32 t.val).toInt : ℝ) : EReal))))
      (BitVec.ofBool (decide ((((BitVec.ofNat 32 t.val).toInt : ℝ) : EReal) ≤ v2 (ix3 0 r 0)))))
    (v4 (ix3 0 r 0) * v17 (ix3 0 t d)) 0

/-- The representation payload. -/
theorem emb (v0 v2 v4 : Vec Ideal S1x256x1 .f32) (v17 : Vec Ideal S1x512x768 .f32) (r : Fin 256) (d : Fin 768) :
    Gen.k0_pay2 v0 v2 v4 v17 (ix2 r d) = row v0 v2 v4 v17 r d := by
  unfold row
  pointwise [Gen.k0_pay2]
  rfl

/-- The first branch's activated hidden row. -/
theorem hidden_f (v0 v2 v4 : Vec Ideal S1x256x1 .f32) (v17 : Vec Ideal S1x512x768 .f32) (v20 : Vec Ideal S768x3072 .f32)
    (v22 : Vec Ideal S1x3072 .f32) (r : Fin 256) (p : Fin 3072) :
    Gen.k0_pay3 v0 v2 v4 v17 v20 v22 (ix2 r p)
      = gelu (linear v20 (fun q => v22 (ix2 0 q)) (fun d => Gen.k0_pay2 v0 v2 v4 v17 (ix2 r d)) p) := by
  unfold gelu linear
  pointwise [Gen.k0_pay3]
  rfl

/-- A normalized row, of any row the second linear layer and the residual give. -/
theorem normed_f (v19 : FVec Ideal S256x768 .f32) (v33 : FVec Ideal S256x3072 .f32) (v34 : Vec Ideal S3072x768 .f32)
    (v36 v57 v61 : Vec Ideal S1x768 .f32) (r : Fin 256) (k : Fin 768) :
    Gen.k0_pay4 v19 v33 v34 v36 v57 v61 (ix2 r k)
      = layerNorm (fun q => v57 (ix2 0 q)) (fun q => v61 (ix2 0 q))
          (fun q => linear v34 (fun q => v36 (ix2 0 q)) (fun p => v33 (ix2 r p)) q + v19 (ix2 r q)) k := by
  unfold layerNorm spread center linear
  pointwise [Gen.k0_pay4]

/-- The second branch's normalized row. -/
theorem normed_r (v19 : FVec Ideal S256x768 .f32) (v65 : Vec Ideal S768x3072 .f32) (v67 : Vec Ideal S1x3072 .f32)
    (v79 : Vec Ideal S3072x768 .f32) (v81 v102 v106 : Vec Ideal S1x768 .f32) (r : Fin 256) (k : Fin 768) :
    Gen.k0_pay8 v19 (Gen.k0_pay6 v19 v65 v67) (Gen.k0_pay7 v19 v65 v67) v79 v81 v102 v106 (ix2 r k)
      = layerNorm (fun q => v102 (ix2 0 q)) (fun q => v106 (ix2 0 q))
          (mixed v65 (fun q => v67 (ix2 0 q)) v79 (fun q => v81 (ix2 0 q)) (fun d => v19 (ix2 r d))) k := by
  unfold layerNorm spread center mixed gelu linear
  pointwise [Gen.k0_pay8, Gen.k0_pay6, Gen.k0_pay7, Gen.k0_pay5]
  rfl

/-- The first branch's three scores. -/
theorem class_f (v64 : FVec Ideal S256x768 .f32) (v110 : Vec Ideal S768x3 .f32) (v112 : Vec Ideal S1x3 .f32) (r : Fin 256) (n : Fin 3) :
    Gen.k0_pay9 v64 v110 v112 (ix2 r n) = linear v110 (fun q => v112 (ix2 0 q)) (fun k => v64 (ix2 r k)) n := by
  unfold linear
  pointwise [Gen.k0_pay9]

/-- The stored block: the first branch's scores, then the second's. -/
theorem stored (v109 : FVec Ideal S256x768 .f32) (v115 : FVec Ideal S256x3 .f32) (v116 : Vec Ideal S768x3 .f32) (v118 : Vec Ideal S1x3 .f32)
    (r : Fin 256) (n : Fin 6) :
    Gen.k0_pay1 v109 v115 v116 v118 (ix3 0 r n)
      = scores (fun q => v115 (ix2 r q)) (linear v116 (fun q => v118 (ix2 0 q)) (fun k => v109 (ix2 r k))) n := by
  unfold scores linear
  pointwise [Gen.k0_pay1]

end Cert.Proof.Payloads
-- ==== Proof.Blocks.lean ====
/- What the kernel's windows hold at grid point `t`: the host prepares the span columns and the bias rows from the
   arguments, and each window's block is read here in terms of the arguments alone. -/
module

public import proofs.«01_k».proof.Proof.Gen.KernelIdeal.Frame
public import proofs.«01_k».proof.Proof.Payloads
public import Idealize.ShloMosaic.Lib.Pipeline.ValueKit
public import Idealize.ShloMosaic.Lib.Pointwise
public import Idealize.ShloMosaic.Lib.Claim

@[expose] public section

set_option maxRecDepth 16384

noncomputable section

namespace Cert.Proof.Blocks

open Idealize.ShloMosaic Idealize.ShloMosaic.TcCoe Idealize.SL.Sem Cert.KernelIdeal
open Gen

variable (m : (ℓ : Loc nD τ sig) → Buf (Elt Ideal) ℓ) (c : Dev nD)

/-- The windows' block indices at every grid point. -/
theorem idx : ∀ t : Fin cfg0.N, win0_0.index t = ![t.val, 0, 0] ∧ win0_1.index t = ![t.val, 0, 0] ∧ win0_2.index t = ![t.val, 0, 0]
    ∧ win0_3.index t = ![t.val / 8, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] ∧ win0_18.index t = ![0, 0]
    ∧ win0_19.index t = ![0, 0] ∧ win0_20.index t = ![t.val, 0, 0] :=
  (by decide +kernel : ∀ t : Fin grid0.N, _)

/-- Window 4's block is the whole weight matrix `arg6`. -/
theorem weights4 (t : Fin cfg0.N) : (iblk m c 4 t : Vec Ideal S768x3072 .f32) = m (c, Proc.tc.devRef main_arg6) := by
  blk_ext! [iblk, V_main_arg6, idx t]

/-- Window 6's block is the whole weight matrix `arg8`. -/
theorem weights6 (t : Fin cfg0.N) : (iblk m c 6 t : Vec Ideal S3072x768 .f32) = m (c, Proc.tc.devRef main_arg8) := by
  blk_ext! [iblk, V_main_arg8, idx t]

/-- Window 10's block is the whole weight matrix `arg12`. -/
theorem weights10 (t : Fin cfg0.N) : (iblk m c 10 t : Vec Ideal S768x3072 .f32) = m (c, Proc.tc.devRef main_arg12) := by
  blk_ext! [iblk, V_main_arg12, idx t]

/-- Window 12's block is the whole weight matrix `arg14`. -/
theorem weights12 (t : Fin cfg0.N) : (iblk m c 12 t : Vec Ideal S3072x768 .f32) = m (c, Proc.tc.devRef main_arg14) := by
  blk_ext! [iblk, V_main_arg14, idx t]

/-- Window 16's block is the whole weight matrix `arg18`. -/
theorem weights16 (t : Fin cfg0.N) : (iblk m c 16 t : Vec Ideal S768x3 .f32) = m (c, Proc.tc.devRef main_arg18) := by
  blk_ext! [iblk, V_main_arg18, idx t]

/-- Window 18's block is the whole weight matrix `arg20`. -/
theorem weights18 (t : Fin cfg0.N) : (iblk m c 18 t : Vec Ideal S768x3 .f32) = m (c, Proc.tc.devRef main_arg20) := by
  blk_ext! [iblk, V_main_arg20, idx t]

/-- Window 5's block is the vector `arg7` as one row. -/
theorem row5 (t : Fin cfg0.N) (q : Fin 3072) :
    (iblk m c 5 t : Vec Ideal S1x3072 .f32) (ix2 0 q) = m (c, Proc.tc.devRef main_arg7) (ix1 q) := by
  trans (V m c main_call0_v0 : FVec Ideal S1x3072 .f32) (ix2 0 q)
  · blk_point [iblk, idx t]
  · simp only [V, V0, hostOps0, hostOps0_1, List.flatten_cons, List.flatten_nil, List.append_nil, List.cons_append, List.nil_append]
    entry_read
    pointwise

/-- Window 7's block is the vector `arg9` as one row. -/
theorem row7 (t : Fin cfg0.N) (q : Fin 768) :
    (iblk m c 7 t : Vec Ideal S1x768 .f32) (ix2 0 q) = m (c, Proc.tc.devRef main_arg9) (ix1 q) := by
  trans (V m c main_call0_v1 : FVec Ideal S1x768 .f32) (ix2 0 q)
  · blk_point [iblk, idx t]
  · simp only [V, V0, hostOps0, hostOps0_1, List.flatten_cons, List.flatten_nil, List.append_nil, List.cons_append, List.nil_append]
    entry_read
    pointwise

/-- Window 8's block is the vector `arg10` as one row. -/
theorem row8 (t : Fin cfg0.N) (q : Fin 768) :
    (iblk m c 8 t : Vec Ideal S1x768 .f32) (ix2 0 q) = m (c, Proc.tc.devRef main_arg10) (ix1 q) := by
  trans (V m c main_call0_v2 : FVec Ideal S1x768 .f32) (ix2 0 q)
  · blk_point [iblk, idx t]
  · simp only [V, V0, hostOps0, hostOps0_1, List.flatten_cons, List.flatten_nil, List.append_nil, List.cons_append, List.nil_append]
    entry_read
    pointwise

/-- Window 9's block is the vector `arg11` as one row. -/
theorem row9 (t : Fin cfg0.N) (q : Fin 768) :
    (iblk m c 9 t : Vec Ideal S1x768 .f32) (ix2 0 q) = m (c, Proc.tc.devRef main_arg11) (ix1 q) := by
  trans (V m c main_call0_v3 : FVec Ideal S1x768 .f32) (ix2 0 q)
  · blk_point [iblk, idx t]
  · simp only [V, V0, hostOps0, hostOps0_1, List.flatten_cons, List.flatten_nil, List.append_nil, List.cons_append, List.nil_append]
    entry_read
    pointwise

/-- Window 11's block is the vector `arg13` as one row. -/
theorem row11 (t : Fin cfg0.N) (q : Fin 3072) :
    (iblk m c 11 t : Vec Ideal S1x3072 .f32) (ix2 0 q) = m (c, Proc.tc.devRef main_arg13) (ix1 q) := by
  trans (V m c main_call0_v4 : FVec Ideal S1x3072 .f32) (ix2 0 q)
  · blk_point [iblk, idx t]
  · simp only [V, V0, hostOps0, hostOps0_1, List.flatten_cons, List.flatten_nil, List.append_nil, List.cons_append, List.nil_append]
    entry_read
    pointwise

/-- Window 13's block is the vector `arg15` as one row. -/
theorem row13 (t : Fin cfg0.N) (q : Fin 768) :
    (iblk m c 13 t : Vec Ideal S1x768 .f32) (ix2 0 q) = m (c, Proc.tc.devRef main_arg15) (ix1 q) := by
  trans (V m c main_call0_v5 : FVec Ideal S1x768 .f32) (ix2 0 q)
  · blk_point [iblk, idx t]
  · simp only [V, V0, hostOps0, hostOps0_1, List.flatten_cons, List.flatten_nil, List.append_nil, List.cons_append, List.nil_append]
    entry_read
    pointwise

/-- Window 14's block is the vector `arg16` as one row. -/
theorem row14 (t : Fin cfg0.N) (q : Fin 768) :
    (iblk m c 14 t : Vec Ideal S1x768 .f32) (ix2 0 q) = m (c, Proc.tc.devRef main_arg16) (ix1 q) := by
  trans (V m c main_call0_v6 : FVec Ideal S1x768 .f32) (ix2 0 q)
  · blk_point [iblk, idx t]
  · simp only [V, V0, hostOps0, hostOps0_1, List.flatten_cons, List.flatten_nil, List.append_nil, List.cons_append, List.nil_append]
    entry_read
    pointwise

/-- Window 15's block is the vector `arg17` as one row. -/
theorem row15 (t : Fin cfg0.N) (q : Fin 768) :
    (iblk m c 15 t : Vec Ideal S1x768 .f32) (ix2 0 q) = m (c, Proc.tc.devRef main_arg17) (ix1 q) := by
  trans (V m c main_call0_v7 : FVec Ideal S1x768 .f32) (ix2 0 q)
  · blk_point [iblk, idx t]
  · simp only [V, V0, hostOps0, hostOps0_1, List.flatten_cons, List.flatten_nil, List.append_nil, List.cons_append, List.nil_append]
    entry_read
    pointwise

/-- Window 17's block is the vector `arg19` as one row. -/
theorem row17 (t : Fin cfg0.N) (q : Fin 3) :
    (iblk m c 17 t : Vec Ideal S1x3 .f32) (ix2 0 q) = m (c, Proc.tc.devRef main_arg19) (ix1 q) := by
  trans (V m c main_call0_v8 : FVec Ideal S1x3 .f32) (ix2 0 q)
  · blk_point [iblk, idx t]
  · simp only [V, V0, hostOps0, hostOps0_1, List.flatten_cons, List.flatten_nil, List.append_nil, List.cons_append, List.nil_append]
    entry_read
    pointwise

/-- Window 19's block is the vector `arg21` as one row. -/
theorem row19 (t : Fin cfg0.N) (q : Fin 3) :
    (iblk m c 19 t : Vec Ideal S1x3 .f32) (ix2 0 q) = m (c, Proc.tc.devRef main_arg21) (ix1 q) := by
  trans (V m c main_call0_v9 : FVec Ideal S1x3 .f32) (ix2 0 q)
  · blk_point [iblk, idx t]
  · simp only [V, V0, hostOps0, hostOps0_1, List.flatten_cons, List.flatten_nil, List.append_nil, List.cons_append, List.nil_append]
    entry_read
    pointwise

/-- The batch entry grid point `t` works on: eight row blocks make up an entry. -/
def entry (t : Fin cfg0.N) : Fin 8 := ⟨t.val / 8, by have h : t.val < 64 := t.isLt; omega⟩

/-- The span of the entry that row `r` of grid point `t` holds. -/
def span (t : Fin cfg0.N) (r : Fin 256) : Fin 2048 := ⟨t.val % 8 * 256 + r.val, by omega⟩

/-- Window 3's block is the entry's token rows. -/
theorem tokens (t : Fin cfg0.N) (p : Fin 512) (q : Fin 768) :
    (iblk m c 3 t : Vec Ideal S1x512x768 .f32) (ix3 0 p q) = m (c, Proc.tc.devRef main_arg0) (ix3 (entry t) p q) := by
  unfold entry
  blk_point [iblk, V_main_arg0, idx t]

/-- Window 0's block holds the spans' starts as numbers. -/
theorem starts (t : Fin cfg0.N) (r : Fin 256) :
    (iblk m c 0 t : Vec Ideal S1x256x1 .f32) (ix3 0 r 0)
      = (((m (c, Proc.tc.devRef main_arg2) (ix3 (entry t) (span t r) 0) : BitVec 32).toInt : ℝ) : EReal) := by
  trans (V m c main_v15 : FVec Ideal S64x256x1 .f32) (ix3 t r 0)
  · blk_point [iblk, idx t]
  · simp only [V, V0, hostOps0, hostOps0_1, List.flatten_cons, List.flatten_nil, List.append_nil, List.cons_append, List.nil_append]
    entry_read
    pointwise
    rfl

/-- Window 1's block holds the spans' last positions as numbers. -/
theorem ends (t : Fin cfg0.N) (r : Fin 256) :
    (iblk m c 1 t : Vec Ideal S1x256x1 .f32) (ix3 0 r 0)
      = (((m (c, Proc.tc.devRef main_arg2) (ix3 (entry t) (span t r) 0) : BitVec 32).toInt : ℝ) : EReal)
        + (((m (c, Proc.tc.devRef main_arg2) (ix3 (entry t) (span t r) 2) : BitVec 32).toInt : ℝ) : EReal) - Ideal.ofBits .f32 0x3F800000#32 := by
  trans (V m c main_v16 : FVec Ideal S64x256x1 .f32) (ix3 t r 0)
  · blk_point [iblk, idx t]
  · simp only [V, V0, hostOps0, hostOps0_1, List.flatten_cons, List.flatten_nil, List.append_nil, List.cons_append, List.nil_append]
    entry_read
    pointwise
    rfl

/-- Window 2's block holds the spans' masks over their widths. -/
theorem scales (t : Fin cfg0.N) (r : Fin 256) :
    (iblk m c 2 t : Vec Ideal S1x256x1 .f32) (ix3 0 r 0)
      = Ideal.div (Ideal.ofBits .f32 0x3F800000#32)
          (max (((m (c, Proc.tc.devRef main_arg2) (ix3 (entry t) (span t r) 2) : BitVec 32).toInt : ℝ) : EReal) (Ideal.ofBits .f32 0x3F800000#32))
        * (((m (c, Proc.tc.devRef main_arg3) (ix2 (entry t) (span t r)) : BitVec 32).toInt : ℝ) : EReal) := by
  trans (V m c main_v17 : FVec Ideal S64x256x1 .f32) (ix3 t r 0)
  · blk_point [iblk, idx t]
  · simp only [V, V0, hostOps0, hostOps0_1, List.flatten_cons, List.flatten_nil, List.append_nil, List.cons_append, List.nil_append]
    entry_read
    pointwise
    rfl

end Cert.Proof.Blocks
-- ==== Proof.Stored.lean ====
/- The block the kernel stores, over any input blocks: row `r`, score `n`. -/
module

public import proofs.«01_k».proof.Proof.Gen.KernelIdeal.Frame
public import proofs.«01_k».proof.Proof.Payloads
public import Idealize.ShloMosaic.Lib.Pipeline.ValueKit
public import Idealize.ShloMosaic.Lib.Pointwise
public import Idealize.ShloMosaic.Lib.Claim

@[expose] public section

set_option maxRecDepth 16384

noncomputable section

namespace Cert.Proof.Stored

open Idealize.ShloMosaic Idealize.ShloMosaic.TcCoe Idealize.SL.Sem Cert.KernelIdeal
open Gen Spec

/-- A stored row: two branches of the pooled row of the blocks. -/
theorem stored (x0 x1 x2 : Vec Ideal S1x256x1 .f32) (x3 : Vec Ideal S1x512x768 .f32) (x4 : Vec Ideal S768x3072 .f32)
    (x5 : Vec Ideal S1x3072 .f32) (x6 : Vec Ideal S3072x768 .f32) (x7 x8 x9 : Vec Ideal S1x768 .f32)
    (x10 : Vec Ideal S768x3072 .f32) (x11 : Vec Ideal S1x3072 .f32) (x12 : Vec Ideal S3072x768 .f32)
    (x13 x14 x15 : Vec Ideal S1x768 .f32) (x16 : Vec Ideal S768x3 .f32) (x17 : Vec Ideal S1x3 .f32)
    (x18 : Vec Ideal S768x3 .f32) (x19 : Vec Ideal S1x3 .f32) (r : Fin 256) (n : Fin 6) :
    out0_20 x0 x1 x2 x3 x4 x5 x6 x7 x8 x9 x10 x11 x12 x13 x14 x15 x16 x17 x18 x19 (ix3 0 r n)
      = scores
          (branch x4 (fun q => x5 (ix2 0 q)) x6 (fun q => x7 (ix2 0 q)) (fun q => x8 (ix2 0 q)) (fun q => x9 (ix2 0 q))
            x16 (fun q => x17 (ix2 0 q)) (Payloads.row x0 x1 x2 x3 r))
          (branch x10 (fun q => x11 (ix2 0 q)) x12 (fun q => x13 (ix2 0 q)) (fun q => x14 (ix2 0 q)) (fun q => x15 (ix2 0 q))
            x18 (fun q => x19 (ix2 0 q)) (Payloads.row x0 x1 x2 x3 r)) n := by
  frame_out
  have he : k0_pay10 x0 x1 x2 x3 x4 x5 x6 x7 x8 x9 x10 x11 x12 x13 x14 x15 x16 x17 x18 x19 = k0_pay2 x0 x1 x2 x3 := by
    unfold k0_pay10
    frame_out
  rw [he, Payloads.stored]
  simp only [Payloads.class_f, Payloads.normed_f, Payloads.normed_r, Payloads.hidden_f, Payloads.emb]
  rfl

end Cert.Proof.Stored
-- ==== Proof.Value.lean ====
/- The kernel's result: every stored row is the two branches' scores of one span's pooled representation, the blocks of
   the 64 grid points tile the row array, and the last reshape names its rows by batch entry and span. -/
module

public import proofs.«01_k».proof.Proof.Blocks
public import proofs.«01_k».proof.Proof.Stored
public import proofs.«01_k».proof.Proof.Pool

@[expose] public section

set_option maxRecDepth 16384

noncomputable section

namespace Cert.Proof.Value

open Idealize.ShloMosaic Idealize.ShloMosaic.TcCoe Idealize.SL.Sem Cert.KernelIdeal
open Gen Spec Blocks

variable (m : (ℓ : Loc nD τ sig) → Buf (Elt Ideal) ℓ) (c : Dev nD)

/-- A span's first token, its width and its mask, as the arguments give them. -/
def start (b : Fin 8) (s : Fin 2048) : BitVec 32 := m (c, Proc.tc.devRef main_arg2) (ix3 b s 0)
@[inherit_doc start] def width (b : Fin 8) (s : Fin 2048) : BitVec 32 := m (c, Proc.tc.devRef main_arg2) (ix3 b s 2)
@[inherit_doc start] def mask (b : Fin 8) (s : Fin 2048) : BitVec 32 := m (c, Proc.tc.devRef main_arg3) (ix2 b s)

/-- A span's pooled representation. -/
def pooled (b : Fin 8) (s : Fin 2048) (d : Fin 768) : EReal :=
  Pool.pooled (start m c b s).toInt (width m c b s).toInt (mask m c b s).toInt fun p => m (c, Proc.tc.devRef main_arg0) (ix3 b p d)

/-- The six scores of one span. -/
def score (b : Fin 8) (s : Fin 2048) (n : Fin 6) : EReal :=
  scores
    (branch (m (c, Proc.tc.devRef main_arg6)) (fun q => m (c, Proc.tc.devRef main_arg7) (ix1 q)) (m (c, Proc.tc.devRef main_arg8))
      (fun q => m (c, Proc.tc.devRef main_arg9) (ix1 q)) (fun q => m (c, Proc.tc.devRef main_arg10) (ix1 q))
      (fun q => m (c, Proc.tc.devRef main_arg11) (ix1 q)) (m (c, Proc.tc.devRef main_arg18))
      (fun q => m (c, Proc.tc.devRef main_arg19) (ix1 q)) (pooled m c b s))
    (branch (m (c, Proc.tc.devRef main_arg12)) (fun q => m (c, Proc.tc.devRef main_arg13) (ix1 q)) (m (c, Proc.tc.devRef main_arg14))
      (fun q => m (c, Proc.tc.devRef main_arg15) (ix1 q)) (fun q => m (c, Proc.tc.devRef main_arg16) (ix1 q))
      (fun q => m (c, Proc.tc.devRef main_arg17) (ix1 q)) (m (c, Proc.tc.devRef main_arg20))
      (fun q => m (c, Proc.tc.devRef main_arg21) (ix1 q)) (pooled m c b s)) n

/-- The row array: row `r` of block `t` is one span of one entry. -/
def rows : FVec Ideal S64x256x6 .f32 := fun j => score m c (entry (j 0)) (span (j 0) (j 1)) (j 2)

/-- The pattern of one as a real number. -/
theorem one_val : Ideal.ofBits .f32 0x3F800000#32 = 1 := by
  simp [Ideal.ofBits, Ideal.ieee]
  rw [← EReal.coe_mul]
  norm_num

/-- The row the first product makes of the blocks is the span's pooled representation. -/
theorem row_pooled (t : Fin cfg0.N) (r : Fin 256) :
    Payloads.row (iblk m c 0 t) (iblk m c 1 t) (iblk m c 2 t) (iblk m c 3 t) r = pooled m c (entry t) (span t r) := by
  funext d
  unfold Payloads.row pooled
  rw [starts, ends, scales, one_val, ← Pool.kernel_pool]
  simp only [tokens]
  rfl

/-- What the body stores in row `r` of point `t`'s block. -/
theorem point (t : Fin cfg0.N) (r : Fin 256) (n : Fin 6) :
    out0_20 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) (iblk m c 15 t) (iblk m c 16 t) (iblk m c 17 t) (iblk m c 18 t) (iblk m c 19 t) (ix3 0 r n)
      = score m c (entry t) (span t r) n := by
  rw [Stored.stored, row_pooled, weights4, weights6, weights10, weights12, weights16, weights18]
  simp only [row5, row7, row8, row9, row11, row13, row14, row15, row17, row19]
  rfl

/-- The row array after the run. -/
theorem final : (dats m 0 c).arrAt 20 (cfgs 0).N = rows m c := by
  refine (dats m 0 c).arrAt_eq_of_covers 20 _ (by decide +kernel) fun t _ y => ?_
  blk_simp
  rw [after0_20]
  obtain ⟨u, r, n, rfl⟩ : ∃ (u : Fin 1) (r : Fin 256) (n : Fin 6), y = ix3 u r n := ⟨y 0, y 1, y 2, by funext a; fin_cases a <;> rfl⟩
  obtain rfl : u = 0 := Subsingleton.elim _ _
  refine (point m c t r n).trans ?_
  have hj : ((cfg0.win 20).blk t).view.emb (ix3 0 r n) = (ix3 t r n : S64x256x6.Idx) := by
    blk_ext [idx t]
  rw [hj]
  rfl

/-- The last reshape names the rows by entry and span. -/
theorem reshaped (X : FVec Ideal S64x256x6 .f32) (b : Fin 8) (s : Fin 2048) (n : Fin 6) :
    shapeCast S8x2048x6 X Gen.shapeCasts_S64x256x6_S8x2048x6 (ix3 b s n)
      = X (ix3 ⟨b.val * 8 + s.val / 256, by omega⟩ ⟨s.val % 256, by omega⟩ n) := by
  pointwise

/-- The kernel's result: the row array, its rows named by entry and span. -/
theorem result (b : Fin 8) (s : Fin 2048) (n : Fin 6) :
    (shapeCast S8x2048x6 ((dats m 0 c).arrAt 20 (cfgs 0).N : FVec Ideal S64x256x6 .f32) Gen.shapeCasts_S64x256x6_S8x2048x6) (ix3 b s n)
      = score m c b s n := by
  rw [final, reshaped]
  have hb : entry ⟨b.val * 8 + s.val / 256, by show _ < 64; omega⟩ = b := Fin.ext (by simp only [entry]; omega)
  have hs : span ⟨b.val * 8 + s.val / 256, by show _ < 64; omega⟩ ⟨s.val % 256, by omega⟩ = s := Fin.ext (by simp only [span]; omega)
  exact congrArg₂ (fun b s => score m c b s n) hb hs

end Cert.Proof.Value
-- ==== Proof.RefRows.lean ====
/- The reference's result, element by element, as the row-wise mathematics of `Spec`, from the representation it pools. -/
module

public import proofs.«01_k».proof.Proof.Gen.ReferenceIdeal.Run
public import proofs.«01_k».proof.Proof.Spec

@[expose] public section

noncomputable section

namespace Cert.Proof.RefRows

open Idealize.ShloMosaic Idealize.SL.Sem Cert.ReferenceIdeal Cert.ReferenceIdeal.Value Cert.Proof.Spec

variable (V0 : Valuation τ sig (Elt Ideal))

/-- The pooled representation of one span. -/
def repr (b : Fin 8) (s : Fin 2048) (d : Fin 768) : EReal := (res_main_v37 V0 : FVec Ideal S8x2048x768 .f32) (ix3 b s d)

/-- The first branch's hidden row, before activation. -/
theorem hidden_f (b : Fin 8) (s : Fin 2048) (p : Fin 3072) :
    (res_main_v41 V0 : FVec Ideal S8x2048x3072 .f32) (ix3 b s p)
      = linear (V0 (Proc.devRef .tc main_arg6) : FVec Ideal S768x3072 .f32) (fun q => (V0 (Proc.devRef .tc main_arg7) : FVec Ideal S3072 .f32) (ix1 q))
          (repr V0 b s) p := by
  unfold linear repr
  pointwise [res_main_v41]

/-- The second branch's hidden row, before activation. -/
theorem hidden_r (b : Fin 8) (s : Fin 2048) (p : Fin 3072) :
    (res_main_v85 V0 : FVec Ideal S8x2048x3072 .f32) (ix3 b s p)
      = linear (V0 (Proc.devRef .tc main_arg12) : FVec Ideal S768x3072 .f32) (fun q => (V0 (Proc.devRef .tc main_arg13) : FVec Ideal S3072 .f32) (ix1 q))
          (repr V0 b s) p := by
  unfold linear repr
  pointwise [res_main_v85]

/-- The first branch's row before normalization. -/
def rowF (b : Fin 8) (s : Fin 2048) : Fin 768 → EReal :=
  mixed (V0 (Proc.devRef .tc main_arg6) : FVec Ideal S768x3072 .f32) (fun q => (V0 (Proc.devRef .tc main_arg7) : FVec Ideal S3072 .f32) (ix1 q))
    (V0 (Proc.devRef .tc main_arg8) : FVec Ideal S3072x768 .f32) (fun q => (V0 (Proc.devRef .tc main_arg9) : FVec Ideal S768 .f32) (ix1 q)) (repr V0 b s)

/-- The second branch's row before normalization. -/
def rowR (b : Fin 8) (s : Fin 2048) : Fin 768 → EReal :=
  mixed (V0 (Proc.devRef .tc main_arg12) : FVec Ideal S768x3072 .f32) (fun q => (V0 (Proc.devRef .tc main_arg13) : FVec Ideal S3072 .f32) (ix1 q))
    (V0 (Proc.devRef .tc main_arg14) : FVec Ideal S3072x768 .f32) (fun q => (V0 (Proc.devRef .tc main_arg15) : FVec Ideal S768 .f32) (ix1 q)) (repr V0 b s)

/-- The first branch before normalization is its row. -/
theorem mixed_f (b : Fin 8) (s : Fin 2048) (k : Fin 768) :
    (res_main_v53 V0 : FVec Ideal S8x2048x768 .f32) (ix3 b s k) = rowF V0 b s k := by
  unfold rowF mixed
  pointwise [res_main_v53]
  simp only [hidden_f, gelu_erfc]
  rfl

/-- The second branch before normalization is its row. -/
theorem mixed_r (b : Fin 8) (s : Fin 2048) (k : Fin 768) :
    (res_main_v97 V0 : FVec Ideal S8x2048x768 .f32) (ix3 b s k) = rowR V0 b s k := by
  unfold rowR mixed
  pointwise [res_main_v97]
  simp only [hidden_r, gelu_erfc]
  rfl

/-- The first branch's mean. -/
theorem mean_f (b : Fin 8) (s : Fin 2048) :
    (res_main_v57 V0 : FVec Ideal S8x2048x1 .f32) (ix3 b s 0)
      = Ideal.div (∑ x, rowF V0 b s x) (Ideal.ofBits .f32 0x44400000#32) := by
  pointwise [res_main_v57]
  simp only [mixed_f]

/-- The centered row the first branch's variance squares. -/
theorem centered_f (b : Fin 8) (s : Fin 2048) (k : Fin 768) :
    (res_main_v59 V0 : FVec Ideal S8x2048x768 .f32) (ix3 b s k) = center (rowF V0 b s) k := by
  unfold center
  pointwise [res_main_v59]
  simp only [mixed_f, mean_f]

/-- The second branch's mean. -/
theorem mean_r (b : Fin 8) (s : Fin 2048) :
    (res_main_v101 V0 : FVec Ideal S8x2048x1 .f32) (ix3 b s 0)
      = Ideal.div (∑ x, rowR V0 b s x) (Ideal.ofBits .f32 0x44400000#32) := by
  pointwise [res_main_v101]
  simp only [mixed_r]

/-- The centered row the second branch's variance squares. -/
theorem centered_r (b : Fin 8) (s : Fin 2048) (k : Fin 768) :
    (res_main_v103 V0 : FVec Ideal S8x2048x768 .f32) (ix3 b s k) = center (rowR V0 b s) k := by
  unfold center
  pointwise [res_main_v103]
  simp only [mixed_r, mean_r]

/-- The reference's result at a span and a class: the branches' scores on the span's representation. -/
theorem result (b : Fin 8) (s : Fin 2048) (n : Fin 6) :
    (val3 V0 (Proc.devRef .tc main_v126) : FVec Ideal S8x2048x6 .f32) (ix3 b s n)
      = scores
          (linear (V0 (Proc.devRef .tc main_arg18) : FVec Ideal S768x3 .f32) (fun q => (V0 (Proc.devRef .tc main_arg19) : FVec Ideal S3 .f32) (ix1 q))
            (layerNorm (fun q => (V0 (Proc.devRef .tc main_arg10) : FVec Ideal S768 .f32) (ix1 q))
              (fun q => (V0 (Proc.devRef .tc main_arg11) : FVec Ideal S768 .f32) (ix1 q)) (rowF V0 b s)))
          (linear (V0 (Proc.devRef .tc main_arg20) : FVec Ideal S768x3 .f32) (fun q => (V0 (Proc.devRef .tc main_arg21) : FVec Ideal S3 .f32) (ix1 q))
            (layerNorm (fun q => (V0 (Proc.devRef .tc main_arg16) : FVec Ideal S768 .f32) (ix1 q))
              (fun q => (V0 (Proc.devRef .tc main_arg17) : FVec Ideal S768 .f32) (ix1 q)) (rowR V0 b s))) n := by
  refine (congrFun (val3_main_v126 V0) (ix3 b s n)).trans ?_
  unfold scores linear layerNorm
  pointwise
  simp only [mixed_f, mixed_r, mean_f, mean_r, centered_f, centered_r, div_spread]
  rfl

end Cert.Proof.RefRows
-- ==== Proof.RefPool.lean ====
/- The representation the reference pools: its gather reads the token at a clamped position, and the sum over the four
   offsets, divided and masked, is the pooled value of `Pool`. -/
module

public import proofs.«01_k».proof.Proof.RefRows
public import proofs.«01_k».proof.Proof.Pool

@[expose] public section

noncomputable section

namespace Cert.Proof.RefPool

open Idealize.ShloMosaic Idealize.SL.Sem Cert.ReferenceIdeal Cert.ReferenceIdeal.Value

/-- The printed gather's dimension numbers, under a short name. -/
abbrev tokens : GatherDims S8x512x768 S8x2048x4x1 S8x2048x4x768 :=
  gather_S8x512x768_S8x2048x4x1_S8x2048x4x768_3_1_0_0_1_3_11768

/-- The gather at a position: the batch's token at the start index, read signed and clamped into the sequence. -/
theorem gather_token (x : FVec Ideal S8x512x768 .f32) (idx : IVec S8x2048x4x1 32) (b : Fin 8) (s : Fin 2048) (o : Fin 4) (d : Fin 768) :
    Host.gather tokens x idx (ix4 b s o d) = x (ix3 b ⟨min (idx (ix4 b s o 0)).toInt.toNat 511, by omega⟩ d) := by
  have hb : (0 : Fin 3) ∈ GatherDims.operandBatchingDims tokens := List.mem_singleton.mpr rfl
  have hm : (1 : Fin 3) ∈ GatherDims.startIndexMap tokens := List.mem_singleton.mpr rfl
  have hk : (2 : Fin 3) ∈ GatherDims.sKept tokens := (GatherDims.mem_sKept _ _).mpr
    ⟨by show (2 : Fin 3) ∉ [1]; decide, by show (2 : Fin 3) ∉ [0]; decide⟩
  unfold Host.gather
  refine congrArg x (funext fun a => Fin.ext ?_)
  show GatherDims.start tokens (ix4 b s o d) idx a + GatherDims.batchCoord tokens (ix4 b s o d) a
    + GatherDims.offCoord tokens (ix4 b s o d) a = _
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.start_batching _ _ _ _ hb,
      GatherDims.offCoord_eq_zero _ _ _ fun h => ((GatherDims.mem_sKept _ _).mp h).2 hb, Nat.zero_add, Nat.add_zero]
    unfold GatherDims.batchCoord
    rw [dif_pos hb]
    rfl
  · rw [GatherDims.batchCoord_eq_zero _ _ _ (by show (1 : Fin 3) ∉ [0]; decide),
      GatherDims.offCoord_eq_zero _ _ _ fun h => ((GatherDims.mem_sKept _ _).mp h).1 hm, Nat.add_zero]
    unfold GatherDims.start
    rw [dif_pos hm]
    have e : GatherDims.siIdx tokens (ix4 b s o d) ⟨List.idxOf (1 : Fin 3) (GatherDims.startIndexMap tokens),
        List.idxOf_lt_length_iff.2 hm⟩ = ix4 b s o 0 := by
      funext c
      match c with
      | ⟨0, _⟩ => rfl
      | ⟨1, _⟩ => rfl
      | ⟨2, _⟩ => rfl
      | ⟨3, _⟩ => rfl
    rw [e]
    rfl
  · rw [GatherDims.batchCoord_eq_zero _ _ _ (by show (2 : Fin 3) ∉ [0]; decide), Nat.add_zero]
    unfold GatherDims.start GatherDims.offCoord
    rw [dif_neg (by show (2 : Fin 3) ∉ [1]; decide), dif_pos hk, Nat.zero_add]
    rfl

/-- A small start plus an offset, as signed words. -/
theorem toInt_add (s : BitVec 32) (o : Fin 4) (hs : 0 ≤ s.toInt) (hb : s.toInt ≤ 511) :
    (s + BitVec.ofNat 32 o.val).toInt = s.toInt + o.val := by
  rw [BitVec.toInt_add, Pool.toInt_small o.val (by omega), Int.bmod_eq_of_le (by omega) (by omega)]

/-- A word clipped into the sequence, and its wrapped form were it negative. -/
def clip (v : BitVec 32) : BitVec 32 := IntOp.minsi 511#32 (IntOp.maxsi 0#32 v)

/-- The position the gather reads for a clipped word. -/
def wrapped (v : BitVec 32) : BitVec 32 := Scalar.select (IntOp.cmpi .slt (clip v) 0#32) (IntOp.addi (clip v) 512#32) (clip v)

/-- A word inside the sequence is read at its own value. -/
theorem wrapped_val (v : BitVec 32) (h0 : 0 ≤ v.toInt) (h1 : v.toInt ≤ 511) : min (wrapped v).toInt.toNat 511 = v.toInt.toNat := by
  have e0 : (0#32).toInt = 0 := rfl
  have e1 : (511#32).toInt = 511 := rfl
  have hc : (clip v).toInt = v.toInt := by
    unfold clip IntOp.minsi IntOp.maxsi
    simp only [BitVec.slt, e0, e1, decide_eq_true_eq]
    split_ifs <;> omega
  have hn : ¬ ((clip v).toInt < 0) := by omega
  have : wrapped v = clip v := by
    unfold wrapped Scalar.select IntOp.cmpi
    simp [BitVec.slt, e0, hn]
  rw [this, hc]
  omega

variable (V0 : Valuation τ sig (Elt Ideal))

/-- The start of a span, as the argument holds it. -/
def start (b : Fin 8) (s : Fin 2048) : BitVec 32 := (V0 (Proc.devRef .tc main_arg2) : IVec S8x2048x3 32) (ix3 b s 0)

/-- The width of a span, as the argument holds it. -/
def width (b : Fin 8) (s : Fin 2048) : BitVec 32 := (V0 (Proc.devRef .tc main_arg2) : IVec S8x2048x3 32) (ix3 b s 2)

/-- The mask of a span, as the argument holds it. -/
def mask (b : Fin 8) (s : Fin 2048) : BitVec 32 := (V0 (Proc.devRef .tc main_arg3) : IVec S8x2048 32) (ix2 b s)

/-- The width the reference slices out of the spans. -/
theorem sliced_width (b : Fin 8) (s : Fin 2048) : (res_main_v3 V0 : IVec S8x2048 32) (ix2 b s) = width V0 b s := by
  unfold width
  pointwise [res_main_v3]

/-- The offsets are the numbers below four. -/
theorem offset (o : Fin 4) : (res_main_v4 V0 : IVec S4 32) (ix1 o) = BitVec.ofNat 32 o.val := by
  pointwise [res_main_v4]

/-- The clipped positions. -/
theorem clipped (b : Fin 8) (s : Fin 2048) (o : Fin 4) :
    (res_main_v10 V0 : IVec S8x2048x4 32) (ix3 b s o) = clip (start V0 b s + BitVec.ofNat 32 o.val) := by
  unfold clip start
  pointwise [res_main_v10]
  simp only [offset]
  rfl

/-- The reference's representation is the pooled value of a span that fits, up to the sign of an infinite one. -/
theorem pooled (b : Fin 8) (s : Fin 2048) (d : Fin 768)
    (h : Pool.Fits (start V0 b s).toInt (width V0 b s).toInt (mask V0 b s).toInt) :
    Pool.Near (RefRows.repr V0 b s d) (Pool.pooled (start V0 b s).toInt (width V0 b s).toInt (mask V0 b s).toInt
      fun t => (V0 (Proc.devRef .tc main_arg0) : FVec Ideal S8x512x768 .f32) (ix3 b t d)) := by
  have near := Pool.reference_pool (start V0 b s).toInt (mask V0 b s).toInt (width V0 b s)
    (fun t => (V0 (Proc.devRef .tc main_arg0) : FVec Ideal S8x512x768 .f32) (ix3 b t d)) h
    (fun o => ⟨min (wrapped (start V0 b s + BitVec.ofNat 32 o.val)).toInt.toNat 511, by omega⟩) fun hs hsw o ho => by
      have e := toInt_add (start V0 b s) o hs (by omega)
      show ((min (wrapped (start V0 b s + BitVec.ofNat 32 o.val)).toInt.toNat 511 : ℕ) : ℤ) = _
      rw [wrapped_val _ (by omega) (by omega), e]
      omega
  refine Eq.subst (motive := fun a => Pool.Near a _) ?_ near
  symm
  unfold RefRows.repr
  pointwise [res_main_v37]
  simp only [gather_token]
  pointwise
  simp only [clipped, offset, sliced_width]
  rfl

end Cert.Proof.RefPool
-- ==== Proof.Bridge.lean ====
/- The two results are equal: on arguments that agree and satisfy the precondition, the kernel's scores of every span are
   the reference's. -/
module

public import proofs.«01_k».proof.Proof.Value
public import proofs.«01_k».proof.Proof.RefRows
public import proofs.«01_k».proof.Proof.RefPool

@[expose] public section

set_option maxRecDepth 16384

noncomputable section

namespace Cert.Proof.Bridge

open Idealize.ShloMosaic Idealize.ShloMosaic.TcCoe Idealize.SL.Sem
open Spec

variable (m : (ℓ : Loc Cert.KernelIdeal.nD Cert.KernelIdeal.τ Cert.KernelIdeal.sig) → Buf (Elt Ideal) ℓ) (c : Dev Cert.KernelIdeal.nD)

/-- The reference's arguments, read as the kernel's: position by position. -/
def Agree (V0 : Valuation Cert.ReferenceIdeal.τ Cert.ReferenceIdeal.sig (Elt Ideal)) : Prop :=
  V0 (Proc.devRef .tc Cert.ReferenceIdeal.main_arg0) = m (c, Proc.devRef .tc Cert.KernelIdeal.main_arg0)
    ∧ V0 (Proc.devRef .tc Cert.ReferenceIdeal.main_arg2) = m (c, Proc.devRef .tc Cert.KernelIdeal.main_arg2)
    ∧ V0 (Proc.devRef .tc Cert.ReferenceIdeal.main_arg3) = m (c, Proc.devRef .tc Cert.KernelIdeal.main_arg3)
    ∧ V0 (Proc.devRef .tc Cert.ReferenceIdeal.main_arg6) = m (c, Proc.devRef .tc Cert.KernelIdeal.main_arg6)
    ∧ V0 (Proc.devRef .tc Cert.ReferenceIdeal.main_arg7) = m (c, Proc.devRef .tc Cert.KernelIdeal.main_arg7)
    ∧ V0 (Proc.devRef .tc Cert.ReferenceIdeal.main_arg8) = m (c, Proc.devRef .tc Cert.KernelIdeal.main_arg8)
    ∧ V0 (Proc.devRef .tc Cert.ReferenceIdeal.main_arg9) = m (c, Proc.devRef .tc Cert.KernelIdeal.main_arg9)
    ∧ V0 (Proc.devRef .tc Cert.ReferenceIdeal.main_arg10) = m (c, Proc.devRef .tc Cert.KernelIdeal.main_arg10)
    ∧ V0 (Proc.devRef .tc Cert.ReferenceIdeal.main_arg11) = m (c, Proc.devRef .tc Cert.KernelIdeal.main_arg11)
    ∧ V0 (Proc.devRef .tc Cert.ReferenceIdeal.main_arg12) = m (c, Proc.devRef .tc Cert.KernelIdeal.main_arg12)
    ∧ V0 (Proc.devRef .tc Cert.ReferenceIdeal.main_arg13) = m (c, Proc.devRef .tc Cert.KernelIdeal.main_arg13)
    ∧ V0 (Proc.devRef .tc Cert.ReferenceIdeal.main_arg14) = m (c, Proc.devRef .tc Cert.KernelIdeal.main_arg14)
    ∧ V0 (Proc.devRef .tc Cert.ReferenceIdeal.main_arg15) = m (c, Proc.devRef .tc Cert.KernelIdeal.main_arg15)
    ∧ V0 (Proc.devRef .tc Cert.ReferenceIdeal.main_arg16) = m (c, Proc.devRef .tc Cert.KernelIdeal.main_arg16)
    ∧ V0 (Proc.devRef .tc Cert.ReferenceIdeal.main_arg17) = m (c, Proc.devRef .tc Cert.KernelIdeal.main_arg17)
    ∧ V0 (Proc.devRef .tc Cert.ReferenceIdeal.main_arg18) = m (c, Proc.devRef .tc Cert.KernelIdeal.main_arg18)
    ∧ V0 (Proc.devRef .tc Cert.ReferenceIdeal.main_arg19) = m (c, Proc.devRef .tc Cert.KernelIdeal.main_arg19)
    ∧ V0 (Proc.devRef .tc Cert.ReferenceIdeal.main_arg20) = m (c, Proc.devRef .tc Cert.KernelIdeal.main_arg20)
    ∧ V0 (Proc.devRef .tc Cert.ReferenceIdeal.main_arg21) = m (c, Proc.devRef .tc Cert.KernelIdeal.main_arg21)

variable {m c} {V0 : Valuation Cert.ReferenceIdeal.τ Cert.ReferenceIdeal.sig (Elt Ideal)}

/-- The reference's representation of a span that fits is the kernel's, up to the sign of an infinite one. -/
theorem repr_pooled (h : Agree m c V0) (b : Fin 8) (s : Fin 2048)
    (hf : Pool.Fits (Value.start m c b s).toInt (Value.width m c b s).toInt (Value.mask m c b s).toInt) (d : Fin 768) :
    Pool.Near (RefRows.repr V0 b s d) (Value.pooled m c b s d) := by
  obtain ⟨h0, h2, h3, -⟩ := h
  have e1 : RefPool.start V0 b s = Value.start m c b s := congrFun h2 _
  have e2 : RefPool.width V0 b s = Value.width m c b s := congrFun h2 _
  have e3 : RefPool.mask V0 b s = Value.mask m c b s := congrFun h3 _
  have near := RefPool.pooled V0 b s d (by rwa [e1, e2, e3])
  rw [e1, e2, e3, h0] at near
  exact near

/-- The reference's scores of a span that fits are the kernel's. -/
theorem score_eq (h : Agree m c V0) (b : Fin 8) (s : Fin 2048) (n : Fin 6)
    (hf : Pool.Fits (Value.start m c b s).toInt (Value.width m c b s).toInt (Value.mask m c b s).toInt) :
    (Cert.ReferenceIdeal.Value.val3 V0 (Proc.devRef .tc Cert.ReferenceIdeal.main_v126) : FVec Ideal Cert.ReferenceIdeal.S8x2048x6 .f32) (ix3 b s n)
      = Value.score m c b s n := by
  rw [RefRows.result]
  have hr := repr_pooled h b s hf
  obtain ⟨-, -, -, h6, h7, h8, h9, h10, h11, h12, h13, h14, h15, h16, h17, h18, h19, h20, h21⟩ := h
  unfold RefRows.rowF RefRows.rowR
  rw [h6, h7, h8, h9, h10, h11, h12, h13, h14, h15, h16, h17, h18, h19, h20, h21]
  exact congrArg₂ (fun f r => scores f r n) (branch_near _ _ _ _ _ _ _ _ _ _ hr) (branch_near _ _ _ _ _ _ _ _ _ _ hr)

end Cert.Proof.Bridge
-- ==== Proof.Runs.lean ====
/- The two programs' runs in the form the value claim asks: the result array, and the arguments unchanged. -/
module

public import proofs.«01_k».proof.Proof.Bridge
public import proofs.«01_k».proof.Proof.Gen.ReferenceIdeal.Run
public import Idealize.ShloMosaic.Adequacy
public import Idealize.ShloMosaic.Init

@[expose] public section

set_option maxRecDepth 16384

noncomputable section

namespace Cert.Proof.Runs

open Idealize.ShloMosaic Idealize.ShloMosaic.TcCoe Idealize.SL.Sem

/-- Two facts about every final state of the same run hold together. -/
theorem together {nD : Nat} {τ : Topo} {sig : RefSig} {Val : EltTy → Type} {Λ : Labels} [∀ e, Nonempty (Val e)] {defs : Defs nD τ sig Val Λ}
    {p : (c : Thread nD τ) → Prog (TpuEff nD τ sig Val Λ c.2) PUnit} {s : MemSt nD τ sig Val}
    {Q Q' : PUnit × MemSt nD τ sig Val → Prop} (h : θ_run defs p s Q) (h' : θ_run defs p s Q') :
    θ_run defs p s fun r => Q r ∧ Q' r :=
  ⟨fun t ht hf => ⟨MeshRun.post h t ht hf, MeshRun.post h' t ht hf⟩, MeshRun.progress h, MeshRun.fair h⟩

open Cert.KernelIdeal Gen in
/-- What the kernel's result buffer holds after the run. -/
def answer (m : (ℓ : Loc nD τ sig) → Buf (Elt Ideal) ℓ) (c : Dev nD) : FVec Ideal S8x2048x6 .f32 :=
  fun j => Value.score m c (j 0) (j 1) (j 2)

open Cert.KernelIdeal Gen in
/-- The host operation after the region reshapes the region's output into the result. -/
theorem tail_read (F : Valuation τ sig (Elt Ideal)) :
    (StableHlo.after hostOps1 F (Proc.devRef .tc main_v18) : FVec Ideal S8x2048x6 .f32)
      = shapeCast S8x2048x6 (F (Proc.devRef .tc main_call0_v10) : FVec Ideal S64x256x6 .f32) Gen.shapeCasts_S64x256x6_S8x2048x6 := by
  unfold hostOps1
  simp only [StableHlo.after_cons, StableHlo.after_nil]
  unfold StableHlo.TRef.reshape
  after_results_loop
  rfl

open Cert.KernelIdeal Gen in
/-- The reshape after the region leaves the kernel's scores in the result buffer. -/
theorem tail_answer (m : (ℓ : Loc nD τ sig) → Buf (Elt Ideal) ℓ) (c : Dev nD) :
    Pipeline.afterTail₀ cfgs (dats m) 0 (V0 m) [hostOps1] c main_v18 = answer m c := by
  unfold Pipeline.afterTail₀
  simp only [List.flatten_cons, List.flatten_nil, List.append_nil]
  refine (tail_read _).trans ?_
  have e := Pipeline.withArrays_arr (cfgs 0).spec (by decide) c (V0 m c) (fun w => (dats m 0 c).arrAt w (cfgs 0).N) 20
  refine (congrArg (fun X : FVec Ideal S64x256x6 .f32 => shapeCast S8x2048x6 X Gen.shapeCasts_S64x256x6_S8x2048x6) e).trans ?_
  funext j
  obtain ⟨b, s, n, rfl⟩ : ∃ (b : Fin 8) (s : Fin 2048) (n : Fin 6), j = ix3 b s n := ⟨j 0, j 1, j 2, by funext a; fin_cases a <;> rfl⟩
  exact Value.result m c b s n

/-- The reference's result on arguments that agree with the kernel's and satisfy the precondition. -/
theorem reference_answer (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal)) (h : Bridge.Agree m c V0)
    (hin : ∀ b s, Pool.Fits (Value.start m c b s).toInt (Value.width m c b s).toInt (Value.mask m c b s).toInt) :
    (Cert.ReferenceIdeal.Value.val3 V0 (Proc.devRef .tc Cert.ReferenceIdeal.main_v126) : FVec Ideal Cert.ReferenceIdeal.S8x2048x6 .f32)
      = answer m c := by
  funext j
  obtain ⟨b, s, n, rfl⟩ : ∃ (b : Fin 8) (s : Fin 2048) (n : Fin 6), j = ix3 b s n := ⟨j 0, j 1, j 2, by funext a; fin_cases a <;> rfl⟩
  exact Bridge.score_eq h b s n (hin b s)

end Cert.Proof.Runs
-- ==== Proof.Domain.lean ====
/- What the precondition says of one span: it is empty, or its mask is zero, or it fits into the sequence. -/
module

public import proofs.«01_k».proof.Proof.Gen.Pre_spans_inside
public import proofs.«01_k».proof.Proof.Pool
public import Idealize.ShloMosaic.Lib.ReduceAll
public import Idealize.ShloMosaic.Lib.Pointwise

@[expose] public section

noncomputable section

namespace Cert.Proof.Domain

open Idealize.ShloMosaic Cert.Pre_spans_inside

/-- A conjunction of two bits is one when both are. -/
theorem andi_one_iff (x y : BitVec 1) : IntOp.andi x y = 1#1 ↔ x = 1#1 ∧ y = 1#1 := by
  unfold IntOp.andi
  revert x y
  decide

/-- A disjunction of two bits is one when either is. -/
theorem ori_one_iff (x y : BitVec 1) : IntOp.ori x y = 1#1 ↔ x = 1#1 ∨ y = 1#1 := by
  unfold IntOp.ori
  revert x y
  decide

/-- The smaller of a width and four, as signed words. -/
theorem toInt_min (w : BitVec 32) : (IntOp.minsi w 4#32).toInt = min w.toInt 4 := by
  have e : (4#32 : BitVec 32).toInt = 4 := by decide
  unfold IntOp.minsi
  simp only [BitVec.slt, e, decide_eq_true_eq]
  split <;> omega

/-- 512 minus the smaller of a positive width and four, as signed words. -/
theorem toInt_difference (w : BitVec 32) (h : 0 < w.toInt) : (IntOp.subi 512#32 (IntOp.minsi w 4#32)).toInt = 512 - min w.toInt 4 := by
  have e : (512#32 : BitVec 32).toInt = 512 := by decide
  unfold IntOp.subi
  rw [BitVec.toInt_sub, toInt_min, e, Int.bmod_eq_of_le (by omega) (by omega)]

/-- The precondition, span by span. -/
theorem inside (x0 : FVec Ideal S8x512x768 .f32) (x1 : IVec S8x512 1) (x2 : IVec S8x2048x3 32) (x3 : IVec S8x2048 32)
    (x4 : IVec S8x2048x2048 1) (x5 : IVec S8 32) (x6 : FVec Ideal S768x3072 .f32) (x7 : FVec Ideal S3072 .f32)
    (x8 : FVec Ideal S3072x768 .f32) (x9 x10 x11 : FVec Ideal S768 .f32) (x12 : FVec Ideal S768x3072 .f32)
    (x13 : FVec Ideal S3072 .f32) (x14 : FVec Ideal S3072x768 .f32) (x15 x16 x17 : FVec Ideal S768 .f32)
    (x18 : FVec Ideal S768x3 .f32) (x19 : FVec Ideal S3 .f32) (x20 : FVec Ideal S768x3 .f32) (x21 : FVec Ideal S3 .f32)
    (h : @fn Gen.facts Ideal _ x0 x1 x2 x3 x4 x5 x6 x7 x8 x9 x10 x11 x12 x13 x14 x15 x16 x17 x18 x19 x20 x21 = fun _ => 1#1)
    (b : Fin 8) (s : Fin 2048) :
    Pool.Fits (x2 (ix3 b s 0)).toInt (x2 (ix3 b s 2)).toInt (x3 (ix2 b s)).toInt := by
  have hb := congrFun h ix0
  unfold fn fn_part1 at hb
  dsimp only at hb
  have : Subsingleton S_.Idx := ⟨fun a b => funext fun k => k.elim0⟩
  have e := Host.reduce_andi_all _ _ _ _ _ hb (ix2 b s)
  pointwise at e
  have z : (0#32 : BitVec 32).toInt = 0 := rfl
  have f : (4#32 : BitVec 32).toInt = 4 := rfl
  have l : (508#32 : BitVec 32).toInt = 508 := rfl
  by_cases hw : (x2 (ix3 b s 2)).toInt ≤ 0
  · exact .inl (.inl hw)
  simp only [ori_one_iff, andi_one_iff, IntOp.cmpi_sge, IntOp.cmpi_sle, IntOp.cmpi_eq, toInt_difference _ (not_le.mp hw), z, f, l] at e
  rcases e with (e | e) | e
  · exact .inl (.inl e)
  · exact .inl (.inr (by rw [e]; rfl))
  · exact .inr e

end Cert.Proof.Domain
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_spans_inside
public import proofs.«01_k».proof.Proof.Gen.ReferenceIdeal.Run
public import proofs.«01_k».proof.Proof.Runs
public import proofs.«01_k».proof.Proof.Domain
public import Idealize.ShloMosaic.Adequacy
public import Idealize.ShloMosaic.Init

@[expose] public section

set_option maxRecDepth 16384

noncomputable section

namespace Cert.Proof

open Idealize.ShloMosaic Idealize.SL.Sem Cert.Kernel

/-- The reference's run leaves its arguments unchanged, and it declares no semaphore. -/
theorem reference_frame : @quiescent_ReferenceIdeal Cert.ReferenceIdeal.Gen.facts := fun m g _ =>
  (θ_run Cert.ReferenceIdeal.defs _ _).mono
    (fun r h => And.intro (fun c => (h c).2) (Idealize.ShloMosaic.sem_eq_zero_of_no_sems (by decide) r.2))
    (Cert.ReferenceIdeal.Value.run (F := Ideal) m g)

/-- The kernel and the reference end with equal results. -/
theorem values : @algebraic_KernelIdeal_ReferenceIdeal_pre_spans_inside Cert.KernelIdeal.Gen.facts Cert.ReferenceIdeal.Gen.facts Cert.Pre_spans_inside.Gen.facts := by
  intro m g m' g' hpre hagree
  refine ⟨fun c => Runs.answer m c, ?_, ?_⟩
  · exact (θ_run Cert.KernelIdeal.defs _ _).mono
      (fun r h c => ⟨((h.1 c).2 Cert.KernelIdeal.main_v18 (Pipeline.mem_restRefs_of _ (by decide) (by decide))).trans (Runs.tail_answer m c), h.2 c⟩)
      (Runs.together (Cert.KernelIdeal.Gen.run_main m g) (Cert.KernelIdeal.Gen.unchanged m g))
  · refine (θ_run Cert.ReferenceIdeal.defs _ _).mono (fun r h c => ⟨(h c).1.trans ?_, (h c).2⟩)
      (Cert.ReferenceIdeal.Value.run (F := Ideal) m' g')
    refine (Cert.ReferenceIdeal.Value.val3_main_v126 _).symm.trans ?_
    obtain ⟨h0, h1, h2, h3, h4, h5, h6, h7, h8, h9, h10, h11, h12, h13, h14, h15, h16, h17, h18, h19, h20, h21⟩ := hagree c
    exact Runs.reference_answer m c _ ⟨h0, h2, h3, h6, h7, h8, h9, h10, h11, h12, h13, h14, h15, h16, h17, h18, h19, h20, h21⟩ fun b s =>
      Domain.inside _ _ _ _ _ _ _ _ _ _ _ _ _ _ _ _ _ _ _ _ _ _ (hpre c) b s

/-- The claims of the certificate. -/
theorem claim : Cert.Claim :=
  ⟨Cert.Kernel.Gen.facts, Cert.KernelIdeal.Gen.facts, Cert.ReferenceIdeal.Gen.facts, Cert.Pre_spans_inside.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    trivial, values⟩

end Cert.Proof

end
